-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S256x256 : Shape := ⟨2, ![256, 256]⟩
abbrev S3x64x256 : Shape := ⟨3, ![3, 64, 256]⟩
abbrev S4x64x256 : Shape := ⟨3, ![4, 64, 256]⟩
abbrev S4 : Shape := ⟨1, ![4]⟩
abbrev S_ : Shape := ⟨0, ![]⟩
abbrev S1x128x256 : Shape := ⟨3, ![1, 128, 256]⟩
abbrev S128x256 : Shape := ⟨2, ![128, 256]⟩
abbrev S64x128 : Shape := ⟨2, ![64, 128]⟩
abbrev S64x1 : Shape := ⟨2, ![64, 1]⟩
abbrev S64x256 : Shape := ⟨2, ![64, 256]⟩
abbrev S1x64x256 : Shape := ⟨3, ![1, 64, 256]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .f32⟩
  | .local _ .vmem, ⟨4, _⟩ => ⟨S3x64x256, .bf16⟩
  | .local _ .vmem, ⟨5, _⟩ => ⟨S4x64x256, .bf16⟩
  | .local _ .vmem, ⟨6, _⟩ => ⟨S4x64x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 2 28 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v6 : BitVec 32 := Scalar.muli v4 c4_i32_1
  let c4_i32 : BitVec 32 := 4#32
  let v3 : BitVec 32 := Scalar.remsi v2 c4_i32
  let c1_i32_2 : BitVec 32 := 1#32
  let v7 : BitVec 32 := Scalar.addi v3 c1_i32_2
  let c4_i32_3 : BitVec 32 := 4#32
  let v8 : BitVec 32 := Scalar.remsi v7 c4_i32_3
  let v9 : BitVec 32 := Scalar.addi v6 v8
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_6 : BitVec 32 := 4#32
  let v12 : BitVec 32 := Scalar.muli v4 c4_i32_6
  let c4_i32 : BitVec 32 := 4#32
  let v3 : BitVec 32 := Scalar.remsi v2 c4_i32
  let c2_i32 : BitVec 32 := 2#32
  let v13 : BitVec 32 := Scalar.addi v3 c2_i32
  let c4_i32_7 : BitVec 32 := 4#32
  let v14 : BitVec 32 := Scalar.remsi v13 c4_i32_7
  let v15 : BitVec 32 := Scalar.addi v12 v14
  let c1_i32_9 : BitVec 32 := 1#32
  let v16 : BitVec 32 := Scalar.muli v15 c1_i32_9
  let v17 : BitVec 32 := Scalar.addi c0_i32_10 v16
  v17.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_11 : BitVec 32 := 4#32
  let v18 : BitVec 32 := Scalar.muli v4 c4_i32_11
  let c4_i32 : BitVec 32 := 4#32
  let v3 : BitVec 32 := Scalar.remsi v2 c4_i32
  let c3_i32 : BitVec 32 := 3#32
  let v19 : BitVec 32 := Scalar.addi v3 c3_i32
  let c4_i32_12 : BitVec 32 := 4#32
  let v20 : BitVec 32 := Scalar.remsi v19 c4_i32_12
  let v21 : BitVec 32 := Scalar.addi v18 v20
  let c1_i32_14 : BitVec 32 := 1#32
  let v22 : BitVec 32 := Scalar.muli v21 c1_i32_14
  let v23 : BitVec 32 := Scalar.addi c0_i32_15 v22
  v23.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_16 : BitVec 32 := 1#32
  let v24 : BitVec 32 := Scalar.addi v4 c1_i32_16
  let c4_i32_17 : BitVec 32 := 4#32
  let v25 : BitVec 32 := Scalar.remsi v24 c4_i32_17
  let c4_i32_18 : BitVec 32 := 4#32
  let v26 : BitVec 32 := Scalar.muli v25 c4_i32_18
  let c4_i32 : BitVec 32 := 4#32
  let v3 : BitVec 32 := Scalar.remsi v2 c4_i32
  let v27 : BitVec 32 := Scalar.addi v26 v3
  let c1_i32_20 : BitVec 32 := 1#32
  let v28 : BitVec 32 := Scalar.muli v27 c1_i32_20
  let v29 : BitVec 32 := Scalar.addi c0_i32_21 v28
  v29.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_22 : BitVec 32 := 2#32
  let v30 : BitVec 32 := Scalar.addi v4 c2_i32_22
  let c4_i32_23 : BitVec 32 := 4#32
  let v31 : BitVec 32 := Scalar.remsi v30 c4_i32_23
  let c4_i32_24 : BitVec 32 := 4#32
  let v32 : BitVec 32 := Scalar.muli v31 c4_i32_24
  let c4_i32 : BitVec 32 := 4#32
  let v3 : BitVec 32 := Scalar.remsi v2 c4_i32
  let v33 : BitVec 32 := Scalar.addi v32 v3
  let c1_i32_26 : BitVec 32 := 1#32
  let v34 : BitVec 32 := Scalar.muli v33 c1_i32_26
  let v35 : BitVec 32 := Scalar.addi c0_i32_27 v34
  v35.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_28 : BitVec 32 := 3#32
  let v36 : BitVec 32 := Scalar.addi v4 c3_i32_28
  let c4_i32_29 : BitVec 32 := 4#32
  let v37 : BitVec 32 := Scalar.remsi v36 c4_i32_29
  let c4_i32_30 : BitVec 32 := 4#32
  let v38 : BitVec 32 := Scalar.muli v37 c4_i32_30
  let c4_i32 : BitVec 32 := 4#32
  let v3 : BitVec 32 := Scalar.remsi v2 c4_i32
  let v39 : BitVec 32 := Scalar.addi v38 v3
  let c1_i32_32 : BitVec 32 := 1#32
  let v40 : BitVec 32 := Scalar.muli v39 c1_i32_32
  let v41 : BitVec 32 := Scalar.addi c0_i32_33 v40
  v41.toNat
def k0_off1 (d0 : Dev nD) (c1_i32_39 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v47 : BitVec 32 := Scalar.addi v3 c1_i32_39
  let c4_i32_40 : BitVec 32 := 4#32
  let v48 : BitVec 32 := Scalar.remsi v47 c4_i32_40
  let c64_i32 : BitVec 32 := 64#32
  let v49 : BitVec 32 := Scalar.muli v48 c64_i32
  let v50 : Index := Scalar.indexCast v49
  let c0_41 : Index := 0#32
  ![v50.toNat, 0]
def k0_off2 (d0 : Dev nD) (c1_i32_39 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v47 : BitVec 32 := Scalar.addi v3 c1_i32_39
  let c4_i32_40 : BitVec 32 := 4#32
  let v48 : BitVec 32 := Scalar.remsi v47 c4_i32_40
  let c64_i32 : BitVec 32 := 64#32
  let v49 : BitVec 32 := Scalar.muli v48 c64_i32
  let v53 : Index := Scalar.indexCast v49
  let c0_42 : Index := 0#32
  ![v53.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  ![v3.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32_54 : BitVec 32 := 0#32
  let c0_i32_55 : BitVec 32 := 0#32
  ![v3.toNat, 0, 0]
def k0_dev7 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_49 : BitVec 32 := 4#32
  let v79 : BitVec 32 := Scalar.muli v4 c4_i32_49
  let c4_i32 : BitVec 32 := 4#32
  let v3 : BitVec 32 := Scalar.remsi v2 c4_i32
  let c1_i32_39 : BitVec 32 := 1#32
  let v47 : BitVec 32 := Scalar.addi v3 c1_i32_39
  let c4_i32_40 : BitVec 32 := 4#32
  let v48 : BitVec 32 := Scalar.remsi v47 c4_i32_40
  let v80 : BitVec 32 := Scalar.addi v79 v48
  let c1_i32_52 : BitVec 32 := 1#32
  let v81 : BitVec 32 := Scalar.muli v80 c1_i32_52
  let v82 : BitVec 32 := Scalar.addi c0_i32_53 v81
  v82.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_69 : BitVec 32 := 4#32
  let v123 : BitVec 32 := Scalar.muli v4 c4_i32_69
  let c4_i32 : BitVec 32 := 4#32
  let v3 : BitVec 32 := Scalar.remsi v2 c4_i32
  let c3_i32_58 : BitVec 32 := 3#32
  let v91 : BitVec 32 := Scalar.addi v3 c3_i32_58
  let c4_i32_59 : BitVec 32 := 4#32
  let v92 : BitVec 32 := Scalar.remsi v91 c4_i32_59
  let v124 : BitVec 32 := Scalar.addi v123 v92
  let c1_i32_72 : BitVec 32 := 1#32
  let v125 : BitVec 32 := Scalar.muli v124 c1_i32_72
  let v126 : BitVec 32 := Scalar.addi c0_i32_73 v125
  v126.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_90 : BitVec 32 := 4#32
  let v167 : BitVec 32 := Scalar.muli v4 c4_i32_90
  let c4_i32 : BitVec 32 := 4#32
  let v3 : BitVec 32 := Scalar.remsi v2 c4_i32
  let c2_i32_78 : BitVec 32 := 2#32
  let v135 : BitVec 32 := Scalar.addi v3 c2_i32_78
  let c4_i32_79 : BitVec 32 := 4#32
  let v136 : BitVec 32 := Scalar.remsi v135 c4_i32_79
  let v168 : BitVec 32 := Scalar.addi v167 v136
  let c1_i32_93 : BitVec 32 := 1#32
  let v169 : BitVec 32 := Scalar.muli v168 c1_i32_93
  let v170 : BitVec 32 := Scalar.addi c0_i32_94 v169
  v170.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_99 : BitVec 32 := 64#32
  let v179 : BitVec 32 := Scalar.muli v3 c64_i32_99
  let v180 : Index := Scalar.indexCast v179
  let c0_100 : Index := 0#32
  ![v180.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_99 : BitVec 32 := 64#32
  let v179 : BitVec 32 := Scalar.muli v3 c64_i32_99
  let v183 : Index := Scalar.indexCast v179
  let c0_101 : Index := 0#32
  ![v183.toNat, 0]
def k0_off7 (d0 : Dev nD) (c1_i32_106 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v205 : BitVec 32 := Scalar.addi v3 c1_i32_106
  let c4_i32_107 : BitVec 32 := 4#32
  let v206 : BitVec 32 := Scalar.remsi v205 c4_i32_107
  ![v206.toNat]
def k0_off8 (d0 : Dev nD) (c1_i32_106 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v205 : BitVec 32 := Scalar.addi v3 c1_i32_106
  let c4_i32_107 : BitVec 32 := 4#32
  let v206 : BitVec 32 := Scalar.remsi v205 c4_i32_107
  let c0_i32_112 : BitVec 32 := 0#32
  let c0_i32_113 : BitVec 32 := 0#32
  ![v206.toNat, 0, 0]
def k0_off9 (d0 : Dev nD) (c1_i32_106 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v205 : BitVec 32 := Scalar.addi v3 c1_i32_106
  let c4_i32_107 : BitVec 32 := 4#32
  let v206 : BitVec 32 := Scalar.remsi v205 c4_i32_107
  let v215 : Index := Scalar.indexCast v206
  let c0_116 : Index := 0#32
  let c0_117 : Index := 0#32
  ![v215.toNat, 0, 0]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v251 : Index := Scalar.indexCast v4
  let c0_144 : Index := 0#32
  let c0_145 : Index := 0#32
  ![v251.toNat, 0, 0]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  ![v4.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c0_i32_152 : BitVec 32 := 0#32
  let c0_i32_153 : BitVec 32 := 0#32
  ![v4.toNat, 0, 0]
def k0_dev10 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_146 : BitVec 32 := 1#32
  let v255 : BitVec 32 := Scalar.addi v4 c1_i32_146
  let c4_i32_147 : BitVec 32 := 4#32
  let v256 : BitVec 32 := Scalar.remsi v255 c4_i32_147
  let c4_i32_148 : BitVec 32 := 4#32
  let v257 : BitVec 32 := Scalar.muli v256 c4_i32_148
  let c4_i32 : BitVec 32 := 4#32
  let v3 : BitVec 32 := Scalar.remsi v2 c4_i32
  let v258 : BitVec 32 := Scalar.addi v257 v3
  let c1_i32_150 : BitVec 32 := 1#32
  let v259 : BitVec 32 := Scalar.muli v258 c1_i32_150
  let v260 : BitVec 32 := Scalar.addi c0_i32_151 v259
  v260.toNat
def k0_dev11 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_156 : BitVec 32 := 2#32
  let v269 : BitVec 32 := Scalar.addi v4 c2_i32_156
  let c4_i32_157 : BitVec 32 := 4#32
  let v270 : BitVec 32 := Scalar.remsi v269 c4_i32_157
  let c4_i32_158 : BitVec 32 := 4#32
  let v271 : BitVec 32 := Scalar.muli v270 c4_i32_158
  let c4_i32 : BitVec 32 := 4#32
  let v3 : BitVec 32 := Scalar.remsi v2 c4_i32
  let v272 : BitVec 32 := Scalar.addi v271 v3
  let c1_i32_160 : BitVec 32 := 1#32
  let v273 : BitVec 32 := Scalar.muli v272 c1_i32_160
  let v274 : BitVec 32 := Scalar.addi c0_i32_161 v273
  v274.toNat
def k0_dev12 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c3_i32_166 : BitVec 32 := 3#32
  let v283 : BitVec 32 := Scalar.addi v4 c3_i32_166
  let c4_i32_167 : BitVec 32 := 4#32
  let v284 : BitVec 32 := Scalar.remsi v283 c4_i32_167
  let c4_i32_168 : BitVec 32 := 4#32
  let v285 : BitVec 32 := Scalar.muli v284 c4_i32_168
  let c4_i32 : BitVec 32 := 4#32
  let v3 : BitVec 32 := Scalar.remsi v2 c4_i32
  let v286 : BitVec 32 := Scalar.addi v285 v3
  let c1_i32_170 : BitVec 32 := 1#32
  let v287 : BitVec 32 := Scalar.muli v286 c1_i32_170
  let v288 : BitVec 32 := Scalar.addi c0_i32_171 v287
  v288.toNat
def k0_off13 (d0 : Dev nD) (c1_i32_176 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v297 : BitVec 32 := Scalar.addi v4 c1_i32_176
  let c4_i32_177 : BitVec 32 := 4#32
  let v298 : BitVec 32 := Scalar.remsi v297 c4_i32_177
  ![v298.toNat]
def k0_off14 (d0 : Dev nD) (c1_i32_176 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v297 : BitVec 32 := Scalar.addi v4 c1_i32_176
  let c4_i32_177 : BitVec 32 := 4#32
  let v298 : BitVec 32 := Scalar.remsi v297 c4_i32_177
  let c0_i32_181 : BitVec 32 := 0#32
  let c0_i32_182 : BitVec 32 := 0#32
  ![v298.toNat, 0, 0]
def k0_off15 (d0 : Dev nD) (c1_i32_176 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let v297 : BitVec 32 := Scalar.addi v4 c1_i32_176
  let c4_i32_177 : BitVec 32 := 4#32
  let v298 : BitVec 32 := Scalar.remsi v297 c4_i32_177
  let v307 : Index := Scalar.indexCast v298
  let c0_185 : Index := 0#32
  let c0_186 : Index := 0#32
  ![v307.toNat, 0, 0]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_209 : BitVec 32 := 64#32
  let v342 : BitVec 32 := Scalar.muli v3 c64_i32_209
  let v343 : Index := Scalar.indexCast v342
  let c0_210 : Index := 0#32
  ![v343.toNat, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c64_i32_214 : BitVec 32 := 64#32
  let v348 : BitVec 32 := Scalar.muli v3 c64_i32_214
  let c0_i32_219 : BitVec 32 := 0#32
  ![v348.toNat, 0]
def k0_dev13 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_215 : BitVec 32 := 4#32
  let v349 : BitVec 32 := Scalar.muli v4 c4_i32_215
  let c4_i32 : BitVec 32 := 4#32
  let v3 : BitVec 32 := Scalar.remsi v2 c4_i32
  let c1_i32_211 : BitVec 32 := 1#32
  let v345 : BitVec 32 := Scalar.addi v3 c1_i32_211
  let c4_i32_212 : BitVec 32 := 4#32
  let v346 : BitVec 32 := Scalar.remsi v345 c4_i32_212
  let v350 : BitVec 32 := Scalar.addi v349 v346
  let c1_i32_217 : BitVec 32 := 1#32
  let v351 : BitVec 32 := Scalar.muli v350 c1_i32_217
  let v352 : BitVec 32 := Scalar.addi c0_i32_218 v351
  v352.toNat
def k0_dev14 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_225 : BitVec 32 := 4#32
  let v363 : BitVec 32 := Scalar.muli v4 c4_i32_225
  let c4_i32 : BitVec 32 := 4#32
  let v3 : BitVec 32 := Scalar.remsi v2 c4_i32
  let c3_i32_221 : BitVec 32 := 3#32
  let v359 : BitVec 32 := Scalar.addi v3 c3_i32_221
  let c4_i32_222 : BitVec 32 := 4#32
  let v360 : BitVec 32 := Scalar.remsi v359 c4_i32_222
  let v364 : BitVec 32 := Scalar.addi v363 v360
  let c1_i32_227 : BitVec 32 := 1#32
  let v365 : BitVec 32 := Scalar.muli v364 c1_i32_227
  let v366 : BitVec 32 := Scalar.addi c0_i32_228 v365
  v366.toNat
def k0_dev15 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_235 : BitVec 32 := 4#32
  let v377 : BitVec 32 := Scalar.muli v4 c4_i32_235
  let c4_i32 : BitVec 32 := 4#32
  let v3 : BitVec 32 := Scalar.remsi v2 c4_i32
  let c2_i32_231 : BitVec 32 := 2#32
  let v373 : BitVec 32 := Scalar.addi v3 c2_i32_231
  let c4_i32_232 : BitVec 32 := 4#32
  let v374 : BitVec 32 := Scalar.remsi v373 c4_i32_232
  let v378 : BitVec 32 := Scalar.addi v377 v374
  let c1_i32_237 : BitVec 32 := 1#32
  let v379 : BitVec 32 := Scalar.muli v378 c1_i32_237
  let v380 : BitVec 32 := Scalar.addi c0_i32_238 v379
  v380.toNat
def k0_off18 (d0 : Dev nD) (c1_i32_241 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v387 : BitVec 32 := Scalar.addi v3 c1_i32_241
  let c4_i32_242 : BitVec 32 := 4#32
  let v388 : BitVec 32 := Scalar.remsi v387 c4_i32_242
  let c64_i32_244 : BitVec 32 := 64#32
  let v390 : BitVec 32 := Scalar.muli v388 c64_i32_244
  let c0_i32_248 : BitVec 32 := 0#32
  ![v390.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S256 : Shape := ⟨1, ![256]⟩
abbrev S256x128x256 : Shape := ⟨3, ![256, 128, 256]⟩
abbrev S256x256 : Shape := ⟨2, ![256, 256]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S32x128x256, .bf16⟩
  | .hbm, ⟨4, _⟩ => ⟨S256, .i32⟩
  | .hbm, ⟨5, _⟩ => ⟨S256x1, .i32⟩
  | .hbm, ⟨6, _⟩ => ⟨S256x128x256, .bf16⟩
  | .hbm, ⟨7, _⟩ => ⟨S256x256, .f32⟩
  | .hbm, ⟨8, _⟩ => ⟨S_, .i32⟩
  | .hbm, ⟨9, _⟩ => ⟨S256, .i32⟩
  | .hbm, ⟨10, _⟩ => ⟨S256, .i1⟩
  | .hbm, ⟨11, _⟩ => ⟨S_, .i32⟩
  | .hbm, ⟨12, _⟩ => ⟨S256, .i32⟩
  | .hbm, ⟨13, _⟩ => ⟨S256, .i1⟩
  | .hbm, ⟨14, _⟩ => ⟨S256, .i1⟩
  | .hbm, ⟨15, _⟩ => ⟨S256x1, .i1⟩
  | .hbm, ⟨16, _⟩ => ⟨S_, .f32⟩
  | .hbm, ⟨17, _⟩ => ⟨S_, .f32⟩
  | .hbm, ⟨18, _⟩ => ⟨S256x256, .i1⟩
  | .hbm, ⟨19, _⟩ => ⟨S256x256, .f32⟩
  | .hbm, ⟨20, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Mesh.lean ====
/-
# The mesh, its peers, its cells and its slots

Sixteen devices in a 4 × 4 grid: device `4 z + p` lies at place `p` of plane `z`. Every device talks with the three
others of its plane (`pl c i`, the one `i` places on) and the three others of its column (`co c i`, the one `i` planes
on). This module names the devices, the semaphore cells and the parts of the buffers the transfers move, and relates
each offset and device id the program computes to these names.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Devices -/

/-- The plane of a device. -/
def zc (c : Dev nD) : Fin 4 := ⟨c.val / 4, by have := c.isLt; unfold nD at this; omega⟩
/-- Its place in the plane. -/
def pc (c : Dev nD) : Fin 4 := ⟨c.val % 4, Nat.mod_lt _ (by decide)⟩
/-- The device at place `p` of plane `z`. -/
def mk (z p : Fin 4) : Dev nD := ⟨4 * z.val + p.val, by unfold nD; omega⟩
/-- The device `i` places on in the same plane. -/
def pl (c : Dev nD) (i : Fin 4) : Dev nD := mk (zc c) (pc c + i)
/-- The device `i` planes on at the same place. -/
def co (c : Dev nD) (i : Fin 4) : Dev nD := mk (zc c + i) (pc c)

/-- Arithmetic of places, by cases. -/
theorem f4_assoc : ∀ a b c : Fin 4, a + b + c = a + (b + c) := by decide
theorem f4_zero_add (a : Fin 4) : 0 + a = a := by revert a; decide
theorem f4_add_neg_add (a b : Fin 4) : a + -b + b = a := by revert a b; decide
theorem f4_neg_ne (a : Fin 4) : a ≠ 0 → -a ≠ 0 := by revert a; decide
theorem f4_add_zero : ∀ a : Fin 4, a + 0 = a := by decide
theorem f4_neg_add : ∀ a : Fin 4, -a + a = 0 := by decide
theorem f4_add_neg : ∀ a : Fin 4, a + -a = 0 := by decide
theorem f4_sub_cancel : ∀ a b : Fin 4, a + b - a = b := by decide
theorem f4_cancel_neg : ∀ a b : Fin 4, a + b + -b = a := by decide
theorem f4_neg_cancel : ∀ a b : Fin 4, a + -b + b = a := by decide
/-- A device is the pair of its plane and its place. -/
theorem zc_mk (z p : Fin 4) : zc (mk z p) = z := by revert z p; decide
theorem pc_mk (z p : Fin 4) : pc (mk z p) = p := by revert z p; decide
theorem mk_zc_pc (c : Dev nD) : mk (zc c) (pc c) = c := by revert c; decide
/-- Plane and place of a neighbour in the plane, and across the planes. -/
theorem zc_pl (c : Dev nD) (i : Fin 4) : zc (pl c i) = zc c := zc_mk _ _
theorem pc_pl (c : Dev nD) (i : Fin 4) : pc (pl c i) = pc c + i := pc_mk _ _
theorem zc_co (c : Dev nD) (i : Fin 4) : zc (co c i) = zc c + i := zc_mk _ _
theorem pc_co (c : Dev nD) (i : Fin 4) : pc (co c i) = pc c := pc_mk _ _
/-- Steps in the plane, and across the planes, add up. -/
theorem pl_pl (c : Dev nD) (i j : Fin 4) : pl (pl c i) j = pl c (i + j) := by
  unfold pl; rw [zc_mk, pc_mk, f4_assoc]
theorem co_co (c : Dev nD) (i j : Fin 4) : co (co c i) j = co c (i + j) := by
  unfold co; rw [zc_mk, pc_mk, f4_assoc]
theorem pl_zero (c : Dev nD) : pl c 0 = c := by unfold pl; rw [f4_add_zero, mk_zc_pc]
theorem co_zero (c : Dev nD) : co c 0 = c := by unfold co; rw [f4_add_zero, mk_zc_pc]
theorem pl_neg_pl (c : Dev nD) (i : Fin 4) : pl (pl c (-i)) i = c := by rw [pl_pl, f4_neg_add, pl_zero]
theorem pl_pl_neg (c : Dev nD) (i : Fin 4) : pl (pl c i) (-i) = c := by rw [pl_pl, f4_add_neg, pl_zero]
theorem co_neg_co (c : Dev nD) (i : Fin 4) : co (co c (-i)) i = c := by rw [co_co, f4_neg_add, co_zero]
theorem co_co_neg (c : Dev nD) (i : Fin 4) : co (co c i) (-i) = c := by rw [co_co, f4_add_neg, co_zero]

/-- Going on `i` places is a rearrangement of the devices; -/
def plE (i : Fin 4) : Dev nD ≃ Dev nD := ⟨fun d => pl d (-i), fun d => pl d i, fun d => pl_neg_pl d i, fun d => pl_pl_neg d i⟩
/-- so is going on `i` planes. -/
def coE (i : Fin 4) : Dev nD ≃ Dev nD := ⟨fun d => co d (-i), fun d => co d i, fun d => co_neg_co d i, fun d => co_co_neg d i⟩

/-- The devices that the body's signals and copies name are neighbours in the plane or across. -/
theorem dev1_eq (c : Dev nD) : (⟨k0_dev1 c, k0_dev1_lt c⟩ : Dev nD) = pl c 1 := Fin.ext ((k0_dev1_eq c).trans (by revert c; decide))
theorem dev2_eq (c : Dev nD) : (⟨k0_dev2 c, k0_dev2_lt c⟩ : Dev nD) = pl c 2 := Fin.ext ((k0_dev2_eq c).trans (by revert c; decide))
theorem dev3_eq (c : Dev nD) : (⟨k0_dev3 c, k0_dev3_lt c⟩ : Dev nD) = pl c 3 := Fin.ext ((k0_dev3_eq c).trans (by revert c; decide))
theorem dev4_eq (c : Dev nD) : (⟨k0_dev4 c, k0_dev4_lt c⟩ : Dev nD) = co c 1 := Fin.ext ((k0_dev4_eq c).trans (by revert c; decide))
theorem dev5_eq (c : Dev nD) : (⟨k0_dev5 c, k0_dev5_lt c⟩ : Dev nD) = co c 2 := Fin.ext ((k0_dev5_eq c).trans (by revert c; decide))
theorem dev6_eq (c : Dev nD) : (⟨k0_dev6 c, k0_dev6_lt c⟩ : Dev nD) = co c 3 := Fin.ext ((k0_dev6_eq c).trans (by revert c; decide))
theorem dev7_eq (c : Dev nD) : (⟨k0_dev7 c, k0_dev7_lt c⟩ : Dev nD) = pl c 1 := Fin.ext ((k0_dev7_eq c).trans (by revert c; decide))
theorem dev8_eq (c : Dev nD) : (⟨k0_dev8 c, k0_dev8_lt c⟩ : Dev nD) = pl c 3 := Fin.ext ((k0_dev8_eq c).trans (by revert c; decide))
theorem dev9_eq (c : Dev nD) : (⟨k0_dev9 c, k0_dev9_lt c⟩ : Dev nD) = pl c 2 := Fin.ext ((k0_dev9_eq c).trans (by revert c; decide))
theorem dev10_eq (c : Dev nD) : (⟨k0_dev10 c, k0_dev10_lt c⟩ : Dev nD) = co c 1 := Fin.ext ((k0_dev10_eq c).trans (by revert c; decide))
theorem dev11_eq (c : Dev nD) : (⟨k0_dev11 c, k0_dev11_lt c⟩ : Dev nD) = co c 2 := Fin.ext ((k0_dev11_eq c).trans (by revert c; decide))
theorem dev12_eq (c : Dev nD) : (⟨k0_dev12 c, k0_dev12_lt c⟩ : Dev nD) = co c 3 := Fin.ext ((k0_dev12_eq c).trans (by revert c; decide))
theorem dev13_eq (c : Dev nD) : (⟨k0_dev13 c, k0_dev13_lt c⟩ : Dev nD) = pl c 1 := Fin.ext ((k0_dev13_eq c).trans (by revert c; decide))
theorem dev14_eq (c : Dev nD) : (⟨k0_dev14 c, k0_dev14_lt c⟩ : Dev nD) = pl c 3 := Fin.ext ((k0_dev14_eq c).trans (by revert c; decide))
theorem dev15_eq (c : Dev nD) : (⟨k0_dev15 c, k0_dev15_lt c⟩ : Dev nD) = pl c 2 := Fin.ext ((k0_dev15_eq c).trans (by revert c; decide))

/-! ## Semaphores and cells -/

/-- The semaphores of the kernel's own besides the barrier: the column semaphore, and six rows of four transfer
    semaphores (sent and received, of each of the three exchanges). -/
abbrev OIdx : Type := Unit ⊕ (Fin 6 × Fin 4)
/-- All of them, the barrier semaphore first. -/
abbrev JIdx : Type := Unit ⊕ OIdx

/-- The transfer semaphore `j` of row `k`. -/
def dsem (k : Fin 6) (j : Fin 4) : DmaSem sig := ⟨4 + (4 * k.val + j.val), by show _ < 28; omega⟩
/-- The column semaphore; -/
abbrev colS : Sem sig := cc0_scratch9.sem
/-- the barrier semaphore. -/
abbrev barS : Sem sig := (SemArray.scalar (sig.barrier 0 rfl) : Sems sig S_).sem

/-- The semaphores that the call brings. -/
abbrev osem : OIdx → SemLoc sig
  | .inl _ => .reg colS
  | .inr kj => .dma (dsem kj.1 kj.2)
/-- The semaphores of the protocol: the barrier and the call's own. -/
abbrev csem : JIdx → SemLoc sig
  | .inl _ => .reg barS
  | .inr o => osem o
/-- A device's cell of such a semaphore. -/
abbrev kcell (cj : Dev nD × JIdx) : GSem nD τ sig := ((cj.1 : Thread nD τ), csem cj.2)

/-- Where the row of semaphores a device counts a family on begins: at its own place (its own plane) for what it
    receives, at the first for what it sends. -/
def base (c : Dev nD) (k : Fin 6) : Fin 4 := if k = 1 ∨ k = 5 then pc c else if k = 3 then zc c else 0

/-- The semaphores in eight families of four: the barrier and the column semaphore (one each, whatever `i`), and the
    six rows, each counted from its base. -/
abbrev idx (c : Dev nD) : Fin 8 → Fin 4 → JIdx
  | 0, _ => .inl ()
  | 1, _ => .inr (.inl ())
  | 2, i => .inr (.inr (0, base c 0 + i))
  | 3, i => .inr (.inr (1, base c 1 + i))
  | 4, i => .inr (.inr (2, base c 2 + i))
  | 5, i => .inr (.inr (3, base c 3 + i))
  | 6, i => .inr (.inr (4, base c 4 + i))
  | 7, i => .inr (.inr (5, base c 5 + i))

/-- Device `c`'s cell `i` of family `f`. -/
abbrev fcell (c : Dev nD) (f : Fin 8) (i : Fin 4) : GSem nD τ sig := kcell (c, idx c f i)

/-- The device whose cell `i` of family `f` a device pays. -/
def pay (f : Fin 8) (i : Fin 4) : Dev nD ≃ Dev nD :=
  if f = 0 ∨ f = 3 ∨ f = 7 then plE i else if f = 1 ∨ f = 5 then coE i else Equiv.refl _

/-- Who pays: a neighbour in the plane, -/
theorem pay_pl (f : Fin 8) (i : Fin 4) (d : Dev nD) (hf : f = 0 ∨ f = 3 ∨ f = 7) : pay f i d = pl d (-i) := by
  unfold pay; rw [if_pos hf]; rfl
/-- a neighbour across, -/
theorem pay_co (f : Fin 8) (i : Fin 4) (d : Dev nD) (hf : f = 1 ∨ f = 5) : pay f i d = co d (-i) := by
  unfold pay; rw [if_neg (by rcases hf with rfl | rfl <;> decide), if_pos hf]; rfl
/-- or the device itself. -/
theorem pay_self (f : Fin 8) (i : Fin 4) (d : Dev nD) (hf : f = 2 ∨ f = 4 ∨ f = 6) : pay f i d = d := by
  unfold pay; rw [if_neg (by rcases hf with rfl | rfl | rfl <;> decide), if_neg (by rcases hf with rfl | rfl | rfl <;> decide)]; rfl

/-- The row of a transfer semaphore, -/
def rowOf (q : DmaSem sig) : Fin 6 := ⟨(q.val - 4) / 4, by have h : q.val < 28 := q.isLt; omega⟩
/-- and its place in it. -/
def posOf (q : DmaSem sig) : Fin 4 := ⟨(q.val - 4) % 4, Nat.mod_lt _ (by decide)⟩
/-- Which array a transfer semaphore is in, and where. -/
theorem rowOf_dsem (k : Fin 6) (j : Fin 4) : rowOf (dsem k j) = k := by revert k j; decide
theorem posOf_dsem (k : Fin 6) (j : Fin 4) : posOf (dsem k j) = j := by revert k j; decide
theorem four_le_dsem (k : Fin 6) (j : Fin 4) : 4 ≤ (dsem k j).val := Nat.le_add_right _ _

/-! ## The parts of the buffers -/

/-- The slots lie inside their buffers. -/
theorem inbP (s : ℕ) (h : s < 3) : ∀ a, (![s, 0, 0] : Fin 3 → Nat) a + S1x64x256.size a ≤ S3x64x256.size a := by
  intro a; fin_cases a
  · show s + 1 ≤ 3; omega
  · show 0 + 64 ≤ 64; omega
  · show 0 + 256 ≤ 256; omega
theorem inbA (s : Fin 4) : ∀ a, (![s.val, 0, 0] : Fin 3 → Nat) a + S1x64x256.size a ≤ S4x64x256.size a := by
  intro a; fin_cases a
  · show s.val + 1 ≤ 4; omega
  · show 0 + 64 ≤ 64; omega
  · show 0 + 256 ≤ 256; omega
theorem inbO (s : Fin 4) : ∀ a, (![64 * s.val, 0] : Fin 2 → Nat) a + S64x256.size a ≤ S256x256.size a := by
  intro a; fin_cases a
  · show 64 * s.val + 64 ≤ 256; omega
  · show 0 + 256 ≤ 256; omega

/-- The send buffer. -/
abbrev MP : Memref sig .tc .vmem S3x64x256 .bf16 := Memref.whole cc0_scratch0
/-- The receive buffer of the first exchange. -/
abbrev MA : Memref sig .tc .vmem S4x64x256 .bf16 := Memref.whole cc0_scratch1
/-- That of the second. -/
abbrev MB : Memref sig .tc .vmem S4x64x256 .bf16 := Memref.whole cc0_scratch2
/-- The output. -/
abbrev MO : Memref sig .tc .vmem S256x256 .f32 := Memref.whole cc0_stg3_0
/-- The activations. -/
abbrev MX : Memref sig .tc .vmem S256x128 .bf16 := Memref.whole cc0_stg0_0
/-- The tokens' numbers. -/
abbrev MR : Memref sig .tc .vmem S256x1 .i32 := Memref.whole cc0_stg1_0
/-- The device's two experts. -/
abbrev ME : Memref sig .tc .vmem S2x128x256 .bf16 := Memref.whole cc0_stg2_0

/-- The slot of the outgoing buffer for the device `i` places on, -/
abbrev slP (i : Fin 4) : Memref sig .tc .vmem S1x64x256 .bf16 :=
  MP.slice (Rect.unit (s := S3x64x256) ![i.val - 1, 0, 0] S1x64x256.size (inbP _ (by omega))) (fun _ => rfl)
/-- slot `s` of the plane exchange's buffer, -/
abbrev slA (s : Fin 4) : Memref sig .tc .vmem S1x64x256 .bf16 :=
  MA.slice (Rect.unit (s := S4x64x256) ![s.val, 0, 0] S1x64x256.size (inbA s)) (fun _ => rfl)
/-- of the column exchange's, -/
abbrev slB (s : Fin 4) : Memref sig .tc .vmem S1x64x256 .bf16 :=
  MB.slice (Rect.unit (s := S4x64x256) ![s.val, 0, 0] S1x64x256.size (inbA s)) (fun _ => rfl)
/-- and block `s` of the result's rows. -/
abbrev slO (s : Fin 4) : Memref sig .tc .vmem S64x256 .f32 :=
  MO.slice (Rect.unit (s := S256x256) ![64 * s.val, 0] S64x256.size (inbO s)) (fun _ => rfl)

/-- What a transfer of a slot credits, and what one of a block of result rows does. -/
abbrev NB : ℕ := (slA 0).view.dmaCredit
/-- The units that one output block's copy carries. -/
abbrev NF : ℕ := (slO 0).view.dmaCredit
/-- Copies carry units. -/
theorem NB_pos : 0 < NB := View.dmaCredit_pos _ (by decide)
theorem NF_pos : 0 < NF := View.dmaCredit_pos _ (by decide)

end Cert.MoE

end
-- ==== Proof.Values.lean ====
/-
# What the kernel computes, device by device

The values every transfer carries, as functions of the arrays each device was given: device `c`'s share of the product
for a block of 64 tokens (`PB`), the same rounded for sending (`SA`), the sum over a plane (`QS`), that rounded for
sending (`SB`), and the sum over the planes (`TS`).
-/
module

public import proofs.«01_k».proof.Proof.Mesh

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The memory the run starts from. -/
def s₀ : MemSt nD τ sig (Elt F) := ⟨m, fun _ => 0, ρ⟩

/-- The staged activations, -/
def xstg (c : Dev nD) : (cc0_stg0_0 : Ref sig .tc).ty.Contents (Elt F) :=
  (win0_0.blk (0 : Fin 1)).view.read (Elt F) ((s₀ m ρ).mem ((c : Thread nD τ).loc main_arg0))
/-- expert choices, -/
def rstg (c : Dev nD) : (cc0_stg1_0 : Ref sig .tc).ty.Contents (Elt F) :=
  (win0_1.blk (0 : Fin 1)).view.read (Elt F) ((s₀ m ρ).mem ((c : Thread nD τ).loc main_arg2))
/-- and the device's two experts. -/
def estg (c : Dev nD) : (cc0_stg2_0 : Ref sig .tc).ty.Contents (Elt F) :=
  (win0_2.blk (0 : Fin 1)).view.read (Elt F) ((s₀ m ρ).mem ((c : Thread nD τ).loc main_arg3))

/-- The blocks lie inside their arrays. -/
theorem inbX (t : Fin 4) : ∀ a, (![64 * t.val, 0] : Fin 2 → Nat) a + S64x128.size a ≤ S256x128.size a := by
  intro a; fin_cases a
  · show 64 * t.val + 64 ≤ 256; omega
  · show 0 + 128 ≤ 128; omega
theorem inbR (t : Fin 4) : ∀ a, (![64 * t.val, 0] : Fin 2 → Nat) a + S64x1.size a ≤ S256x1.size a := by
  intro a; fin_cases a
  · show 64 * t.val + 64 ≤ 256; omega
  · show 0 + 1 ≤ 1; omega

/-- The device's number as the kernel reads it. -/
def wd (c : Dev nD) : BitVec 32 := Scalar.remsi (Scalar.divsi (Dev.word c) 1#32) 16#32
/-- Its two experts, one above the other. -/
def wE (c : Dev nD) : FVec F S256x256 .bf16 :=
  k0_pay1
    (ME.view.readAt (Elt F) (Rect.unit (s := S2x128x256) ![0, 0, 0] S1x128x256.size inb_S2x128x256_S1x128x256_0_0_0).toLoadRect (estg m ρ c))
    (ME.view.readAt (Elt F) (Rect.unit (s := S2x128x256) ![1, 0, 0] S1x128x256.size inb_S2x128x256_S1x128x256_1_0_0).toLoadRect (estg m ρ c))
/-- Block `t` of the activations, -/
def xb (c : Dev nD) (t : Fin 4) : Vec F S64x128 .bf16 :=
  MX.view.readAt (Elt F) (Rect.unit (s := S256x128) ![64 * t.val, 0] S64x128.size (inbX t)).toLoadRect (xstg m ρ c)
/-- and of the choices. -/
def rb (c : Dev nD) (t : Fin 4) : Vec F S64x1 .i32 :=
  MR.view.readAt (Elt F) (Rect.unit (s := S256x1) ![64 * t.val, 0] S64x1.size (inbR t)).toLoadRect (rstg m ρ c)

/-- The device's experts applied to the tokens of block `t` that chose them. -/
def PB (c : Dev nD) (t : Fin 4) : FVec F S64x256 .f32 := k0_pay9 (wd c) (wE m ρ c) (xb m ρ c t) (rb m ρ c t)
/-- The same as it is sent to the plane. -/
def SA (c : Dev nD) (t : Fin 4) : FVec F S1x64x256 .bf16 :=
  shapeCast S1x64x256 (truncf .bf16 (PB m ρ c t) bitsLt_bf16_f32) shapeCasts_S64x256_S1x64x256
/-- The plane's sum for the block of the device's place, -/
def QS (c : Dev nD) : FVec F S64x256 .f32 :=
  k0_pay12 (k0_pay10 (PB m ρ c (pc c)) (SA m ρ (pl c 1) (pc c)) (SA m ρ (pl c 3) (pc c))) (k0_pay11 (SA m ρ (pl c 2) (pc c)))
/-- as it is sent to the column, -/
def SB (c : Dev nD) : FVec F S1x64x256 .bf16 :=
  shapeCast S1x64x256 (truncf .bf16 (QS m ρ c) bitsLt_bf16_f32) shapeCasts_S64x256_S1x64x256
/-- and the sum over the four planes. -/
def TS (c : Dev nD) : FVec F S64x256 .f32 :=
  k0_pay15 (k0_pay14 (QS m ρ c) (SB m ρ (co c 1))) (SB m ρ (co c 2)) (SB m ρ (co c 3))

/-- The three spellings of a block's product ready to send are one value. -/
theorem pay5_eq (c : Dev nD) (t : Fin 4) :
    k0_pay5 (wd c) (wE m ρ c) (k0_pay2 (xb m ρ c t)) (k0_pay3 (rb m ρ c t)) (k0_pay4 (wd c)) = SA m ρ c t := rfl
theorem pay7_eq (c : Dev nD) (t : Fin 4) :
    k0_pay7 (wd c) (wE m ρ c) (k0_pay6 (xb m ρ c t)) (rb m ρ c t) = SA m ρ c t := rfl
theorem pay8_eq (c : Dev nD) (t : Fin 4) : k0_pay8 (wd c) (wE m ρ c) (xb m ρ c t) (rb m ρ c t) = SA m ρ c t := rfl

end Cert.MoE

end
-- ==== Proof.Schedule.lean ====
/-
# The schedule of the exchange

Every cell is used for one round. A device's barrier cell and its column cell receive one unit from each of the three
peers that may then write to it, together with the parts of the peer's own buffers the device will write. A transfer
cell receives the whole transfer's credit, with the part of the buffer it filled (on the receiving side) or has read (on
the sending side).
-/
module

public import proofs.«01_k».proof.Proof.Values

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One round of up to four duties per cell. -/
abbrev UB : Type := URounds (GSem nD τ sig) (Fin 4)
/-- The ghost state: the pipeline's and the protocol's. -/
abbrev UU : Type := UR sig nD τ × UB

local notation "𝕄" => MT nD τ sig Unit (Elt F) ℕ UU ℕ

/-- Where the pipeline's lies, -/
abbrev EP : Emb (UR sig nD τ) (MT nD τ sig Unit (Elt F) ℕ UU ℕ) := embL
/-- and the protocol's. -/
abbrev ER : Emb UB (MT nD τ sig Unit (Elt F) ℕ UU ℕ) := embR

variable (m : (ℓ : Loc nD τ sig) → Buf (Elt F) ℓ) (ρ : Dev nD → PrngReg)

/-- A part of a buffer of device `c` at contents `X`, -/
abbrev at_ (c : Dev nD) {s : Shape} {e : EltTy} (M : Memref sig .tc .vmem s e) (q : PosShare TreeShare) (X : s.Idx → Elt F e) : sProp 𝕄 :=
  owns (c : Thread nD τ) M q X
/-- and at whatever contents. -/
abbrev some_ (c : Dev nD) {s : Shape} {e : EltTy} (M : Memref sig .tc .vmem s e) : sProp 𝕄 :=
  iprop(∃ X, at_ (F := F) c M fullShare X)

/-- The three parts a share read by three transfers at once is split into. -/
def sh (i : Fin 4) : PosShare TreeShare :=
  if i = 1 then fullShare.left else if i = 2 then fullShare.right.left else fullShare.right.right

/-- What peer `pl c i` hands over with its unit on the barrier: where it receives from `c`. -/
def barPay (c : Dev nD) (i : Fin 4) : sProp 𝕄 :=
  iprop(some_ (F := F) (pl c i) (slA (pc c)) ∗ some_ (F := F) (pl c i) (slO (pc c)))
/-- What peer `co c i` hands over with its unit on the column semaphore. -/
def colPay (c : Dev nD) (i : Fin 4) : sProp 𝕄 := some_ (F := F) (co c i) (slB (zc c))
/-- What the transfer counted at place `i` of row `k` hands over. -/
def xPay (c : Dev nD) : Fin 6 → Fin 4 → sProp 𝕄
  | 0, i => at_ c (slP i) fullShare (SA m ρ c (pc c + i))
  | 1, i => at_ c (slA (pc c + i)) fullShare (SA m ρ (pl c i) (pc c))
  | 2, i => at_ c (slB (zc c)) (sh i) (SB m ρ c)
  | 3, i => at_ c (slB (zc c + i)) fullShare (SB m ρ (co c i))
  | 4, i => at_ c (slO (pc c)) (sh i) (TS m ρ c)
  | 5, i => at_ c (slO (pc c + i)) fullShare (TS m ρ (pl c i))

/-- The duties of a cell: the three peers on the two regular semaphores; on a transfer semaphore the one place it is
    counted at, none at place zero. -/
def dutiesOf (c : Dev nD) : SemLoc sig → Finset (Fin 4)
  | .reg s => if s = barS ∨ s = colS then {1, 2, 3} else ∅
  | .dma q => if 4 ≤ q.val ∧ posOf q - base c (rowOf q) ≠ 0 then {posOf q - base c (rowOf q)} else ∅
/-- What one duty counts. -/
def amountOf : SemLoc sig → ℕ
  | .reg _ => 1
  | .dma q => if (rowOf q).val < 4 then NB else NF
/-- What a duty's payment hands over, by semaphore. -/
def payloadOf (c : Dev nD) (d : Fin 4) : SemLoc sig → sProp 𝕄
  | .reg s => if s = colS then colPay (F := F) c d else barPay (F := F) c d
  | .dma q => xPay m ρ c (rowOf q) (posOf q - base c (rowOf q))

/-- Every payment is of some units. -/
theorem amountOf_pos (sm : SemLoc sig) : 0 < amountOf sm := by
  cases sm with
  | reg s => exact Nat.one_pos
  | dma q => unfold amountOf; dsimp only; split
             · exact NB_pos
             · exact NF_pos

/-- The schedule: one round, with the duties, amounts and payloads above. -/
def Rd : Rounds.Schedule (GSem nD τ sig) (Fin 4) 𝕄 where
  duties g r := if r = 0 ∧ g.1.2 = .tc then dutiesOf g.1.1 g.2 else ∅
  unitless _ := False
  amount g _ _ := amountOf g.2
  payload g _ d := payloadOf m ρ g.1.1 d g.2
  amount_pos g _ _ _ := amountOf_pos g.2

/-- The payloads may be kept in invariants. -/
instance barPay_storable (c : Dev nD) (i : Fin 4) : BI.Storable (upEmb : UEmb _ 𝕄) (barPay (F := F) c i) := by
  unfold barPay; infer_instance
instance colPay_storable (c : Dev nD) (i : Fin 4) : BI.Storable (upEmb : UEmb _ 𝕄) (colPay (F := F) c i) := by
  unfold colPay; infer_instance
instance xPay_storable (c : Dev nD) (k : Fin 6) (i : Fin 4) : BI.Storable (upEmb : UEmb _ 𝕄) (xPay m ρ c k i) := by
  fin_cases k <;> (unfold xPay; infer_instance)
instance payload_storable (g : GSem nD τ sig) (r : ℕ) (d : Fin 4) : BI.Storable (upEmb : UEmb _ 𝕄) ((Rd m ρ).payload g r d) := by
  show BI.Storable upEmb (payloadOf m ρ g.1.1 d g.2)
  cases g.2 with
  | reg s => unfold payloadOf; dsimp only; split <;> infer_instance
  | dma q => unfold payloadOf; dsimp only; infer_instance

/-! ## The schedule at the cells -/

/-- The two barriers are different semaphores. -/
theorem bar_ne_col : barS ≠ colS := by decide

/-- The units a duty of family `f` counts. -/
def amt (f : Fin 8) : ℕ := if f.val < 2 then 1 else if f.val < 6 then NB else NF

/-- The amount by family, -/
theorem csem_amt (c : Dev nD) (f : Fin 8) (i : Fin 4) : amountOf (csem (idx c f i)) = amt f := by
  fin_cases f
  · rfl
  · rfl
  all_goals (show (if (rowOf (dsem _ _)).val < 4 then NB else NF) = _; rw [rowOf_dsem]; rfl)

/-- in the schedule. -/
theorem amount_eq (c : Dev nD) (f : Fin 8) (i : Fin 4) (d : Fin 4) : (Rd m ρ).amount (fcell c f i) 0 d = amt f :=
  csem_amt c f i

/-- A barrier's cell has three duties. -/
theorem duties_reg (c : Dev nD) (f : Fin 8) (hf : f.val < 2) (i : Fin 4) : (Rd m ρ).duties (fcell c f i) 0 = {1, 2, 3} := by
  show (if 0 = 0 ∧ (Proc.tc : Proc τ) = .tc then dutiesOf c (csem (idx c f i)) else ∅) = _
  rw [if_pos ⟨rfl, rfl⟩]
  have h : f = 0 ∨ f = 1 := by omega
  rcases h with rfl | rfl
  · show (if barS = barS ∨ barS = colS then ({1, 2, 3} : Finset (Fin 4)) else ∅) = _; exact if_pos (Or.inl rfl)
  · show (if colS = barS ∨ colS = colS then ({1, 2, 3} : Finset (Fin 4)) else ∅) = _; exact if_pos (Or.inr rfl)

/-- A transfer cell has one, unless it is the device's own place. -/
theorem dutiesOf_dsem (c : Dev nD) (k : Fin 6) (i : Fin 4) : dutiesOf c (.dma (dsem k (base c k + i))) = if i ≠ 0 then {i} else ∅ := by
  show (if 4 ≤ (dsem k (base c k + i)).val ∧ posOf (dsem k (base c k + i)) - base c (rowOf (dsem k (base c k + i))) ≠ 0
    then ({posOf (dsem k (base c k + i)) - base c (rowOf (dsem k (base c k + i)))} : Finset (Fin 4)) else ∅) = _
  rw [rowOf_dsem, posOf_dsem, f4_sub_cancel]
  by_cases h : i ≠ 0
  · rw [if_pos ⟨four_le_dsem _ _, h⟩, if_pos h]
  · rw [if_neg fun hh => h hh.2, if_neg h]

/-- The row a family counts on. -/
def krow (f : Fin 8) : Fin 6 := ⟨f.val - 2, by omega⟩
/-- The transfer semaphores by family. -/
theorem csem_xfer (c : Dev nD) (f : Fin 8) (hf : 2 ≤ f.val) (i : Fin 4) :
    csem (idx c f i) = .dma (dsem (krow f) (base c (krow f) + i)) := by
  fin_cases f
  · exact absurd hf (by decide)
  · exact absurd hf (by decide)
  all_goals rfl

/-- So it is in the schedule. -/
theorem duties_xfer (c : Dev nD) (f : Fin 8) (hf : 2 ≤ f.val) (i : Fin 4) (hi : i ≠ 0) : (Rd m ρ).duties (fcell c f i) 0 = {i} := by
  show (if 0 = 0 ∧ (Proc.tc : Proc τ) = .tc then dutiesOf c (csem (idx c f i)) else ∅) = _
  rw [if_pos ⟨rfl, rfl⟩, csem_xfer c f hf, dutiesOf_dsem, if_pos hi]
/-- The device's own place has none. -/
theorem duties_xfer_zero (c : Dev nD) (f : Fin 8) (hf : 2 ≤ f.val) (r : ℕ) : (Rd m ρ).duties (fcell c f 0) r = ∅ := by
  show (if r = 0 ∧ (Proc.tc : Proc τ) = .tc then dutiesOf c (csem (idx c f 0)) else ∅) = _
  by_cases hr : r = 0
  · rw [if_pos ⟨hr, rfl⟩, csem_xfer c f hf, dutiesOf_dsem, if_neg (fun h => h rfl)]
  · exact if_neg fun h => hr h.1
/-- There is one round only. -/
theorem duties_later (g : GSem nD τ sig) : ∀ r, 1 ≤ r → (Rd m ρ).duties g r = ∅ :=
  fun r hr => if_neg fun h => by omega

/-- The duty of each neighbour. -/
theorem mem_duties (c : Dev nD) (f : Fin 8) (i : Fin 4) (hi : i ≠ 0) : i ∈ (Rd m ρ).duties (fcell c f i) 0 := by
  by_cases hf : f.val < 2
  · rw [duties_reg m ρ c f hf]; revert i; decide
  · rw [duties_xfer m ρ c f (by omega) i hi]; exact Finset.mem_singleton_self _

/-- What a signal on the first barrier hands over, -/
theorem payload_bar (c : Dev nD) (i d : Fin 4) : (Rd m ρ).payload (fcell c 0 i) 0 d = barPay (F := F) c d := by
  show (if barS = colS then colPay (F := F) c d else barPay (F := F) c d) = _
  exact if_neg bar_ne_col
/-- on the second, -/
theorem payload_col (c : Dev nD) (i d : Fin 4) : (Rd m ρ).payload (fcell c 1 i) 0 d = colPay (F := F) c d := by
  show (if colS = colS then colPay (F := F) c d else barPay (F := F) c d) = _
  exact if_pos rfl
/-- and a copy. -/
theorem payload_xfer (c : Dev nD) (f : Fin 8) (hf : 2 ≤ f.val) (i d : Fin 4) :
    (Rd m ρ).payload (fcell c f i) 0 d = xPay m ρ c (krow f) i := by
  show payloadOf m ρ c d (csem (idx c f i)) = _
  rw [csem_xfer c f hf]
  show xPay m ρ c (rowOf (dsem _ _)) (posOf (dsem _ _) - base c (rowOf (dsem _ _))) = _
  rw [rowOf_dsem, posOf_dsem, f4_sub_cancel]

/-- A barrier's wait is for three units, -/
theorem expect_reg (c : Dev nD) (f : Fin 8) (hf : f.val < 2) (i : Fin 4) : (Rd m ρ).expect (fcell c f i) 0 = 3 := by
  unfold Schedule.expect Schedule.amountOf
  rw [duties_reg m ρ c f hf, Finset.sum_congr rfl fun d _ => amount_eq m ρ c f i d, amt, if_pos hf]
  decide
/-- a transfer's for one block. -/
theorem expect_xfer (c : Dev nD) (f : Fin 8) (hf : 2 ≤ f.val) (i : Fin 4) (hi : i ≠ 0) : (Rd m ρ).expect (fcell c f i) 0 = amt f := by
  unfold Schedule.expect Schedule.amountOf
  rw [duties_xfer m ρ c f hf i hi, Finset.sum_singleton, amount_eq]

/-- What a barrier's wait receives, -/
theorem rest_reg (c : Dev nD) (f : Fin 8) (hf : f.val < 2) (i : Fin 4) :
    bigSep ((Rd m ρ).duties (fcell c f i) 0 \ ∅) (fun d => (Rd m ρ).payload (fcell c f i) 0 d)
      = iprop((Rd m ρ).payload (fcell c f i) 0 1 ∗ (Rd m ρ).payload (fcell c f i) 0 2 ∗ (Rd m ρ).payload (fcell c f i) 0 3) := by
  rw [Finset.sdiff_empty, duties_reg m ρ c f hf, bigSep_eq_bigSepL_of_eq [1, 2, 3] (by decide) (by decide)]
  rfl
/-- and a transfer's. -/
theorem rest_xfer (c : Dev nD) (f : Fin 8) (hf : 2 ≤ f.val) (i : Fin 4) (hi : i ≠ 0) :
    bigSep ((Rd m ρ).duties (fcell c f i) 0 \ ∅) (fun d => (Rd m ρ).payload (fcell c f i) 0 d) = xPay m ρ c (krow f) i := by
  rw [Finset.sdiff_empty, duties_xfer m ρ c f hf i hi, bigSep_singleton, payload_xfer m ρ c f hf]

end Cert.MoE

end
-- ==== Proof.Owed.lean ====
/-
# What a device owes, and the order of the waits

A device's payments are a list of (family, place) pairs, in the order the kernel makes them; what it owes is the sum over
what is left of the list. Every wait is on a cell of a level below everything still owed.
-/
module

public import proofs.«01_k».proof.Proof.Schedule

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

omit [FloatOps F] in
/-- What is owed at one cell is owed at no other. -/
theorem tallyAt_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

/-- What device `d` owes when the payments `l` are left. -/
def owedL (d : Dev nD) : List (Fin 8 × Fin 4) → CellTallies nD τ sig Unit
  | [] => 0
  | x :: l => owedL d l + tallyAt (fcell (pay x.1 x.2 d) x.1 x.2) () (amt x.1)

/-- The payments in program order: a unit on the barrier of each peer of the plane, on the column semaphore of each of the
    column, then the transfers of the three exchanges. A payment `i` is the payee's place counted from the payee. -/
abbrev L6 : List (Fin 8 × Fin 4) := [(7, 3), (7, 1), (7, 2)]
/-- What is left to pay after the second exchange's barrier, -/
abbrev L5 : List (Fin 8 × Fin 4) := (5, 3) :: (5, 2) :: (5, 1) :: L6
/-- before the first exchange, -/
abbrev L3 : List (Fin 8 × Fin 4) := (3, 3) :: (3, 1) :: (3, 2) :: L5
/-- before the second barrier's signals, -/
abbrev L1 : List (Fin 8 × Fin 4) := (1, 3) :: (1, 2) :: (1, 1) :: L3
/-- and at the start. -/
abbrev L0 : List (Fin 8 × Fin 4) := (0, 3) :: (0, 2) :: (0, 1) :: L1

/-- What is owed anywhere comes from the list. -/
theorem owedL_pos {d : Dev nD} {l : List (Fin 8 × Fin 4)} {g : GSem nD τ sig} {u : Unit} (h : 0 < owedL d l g u) :
    ∃ x ∈ l, g = fcell (pay x.1 x.2 d) x.1 x.2 := by
  induction l with
  | nil => exact absurd h (Nat.lt_irrefl 0)
  | cons x l ih =>
    unfold owedL at h
    rw [Pi.add_apply, Finsupp.add_apply] at h
    rcases Nat.eq_zero_or_pos (owedL d l g u) with h0 | h1
    · rw [h0, Nat.zero_add] at h
      exact ⟨x, List.mem_cons_self, tallyAt_pos h⟩
    · obtain ⟨y, hy, e⟩ := ih h1
      exact ⟨y, List.mem_cons_of_mem _ hy, e⟩

/-- The cells of cores have one level each. -/
def L (g : GSem nD τ sig) : Finset Unit := if g.1.2 = .tc then {()} else ∅
/-- The order of the waits: what has been sent, and the staging, below everything; then the barrier, the plane exchange, the
    column semaphore, the column exchange, the exchange of results. -/
def lvS : SemLoc sig → ℕ
  | .reg s => if s = barS then 1 else 3
  | .dma q => if 4 ≤ q.val then (if rowOf q = 1 then 2 else if rowOf q = 3 then 4 else if rowOf q = 5 then 5 else 0) else 0
/-- The level of a cell. -/
def lv (g : GSem nD τ sig) (_ : Unit) : ℕ := lvS g.2
/-- The level of a family. -/
def lvF : Fin 8 → ℕ := ![1, 3, 0, 2, 0, 4, 0, 5]

/-- Its value by family. -/
theorem lv_fcell (c : Dev nD) (f : Fin 8) (i : Fin 4) : lvS (csem (idx c f i)) = lvF f := by
  fin_cases f
  · show (if barS = barS then 1 else 3) = 1; exact if_pos rfl
  · show (if colS = barS then 1 else 3) = 3; exact if_neg (Ne.symm bar_ne_col)
  all_goals
    show (if 4 ≤ (dsem _ _).val then (if rowOf (dsem _ _) = 1 then 2 else if rowOf (dsem _ _) = 3 then 4 else if rowOf (dsem _ _) = 5 then 5 else 0) else 0) = _
    rw [if_pos (four_le_dsem _ _), rowOf_dsem]; rfl

/-- Other cells have none. -/
theorem L_of_ne (g : GSem nD τ sig) (h : g.1.2 ≠ .tc) : L g = ∅ := if_neg h
/-- A core's cell has one. -/
theorem L_tc (c : Dev nD) (sm : SemLoc sig) : L ((c : Thread nD τ), sm) = {()} := if_pos rfl

omit [FloatOps F] in
/-- A wait on a cell below every payment left. -/
theorem mayWait_of (c : Dev nD) (sm : SemLoc sig) (l : List (Fin 8 × Fin 4)) (h : ∀ x ∈ l, lvS sm < lvF x.1) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨x, -, rfl⟩ := owedL_pos hg; exact Finset.mem_singleton_self _)
    (fun p hp => by rw [Finset.mem_singleton.mp hp]; exact le_refl _)
    (fun g u hg => by
      obtain ⟨x, hx, rfl⟩ := owedL_pos hg
      show lvS sm < lvS (csem (idx _ x.1 x.2))
      rw [lv_fcell]; exact h x hx)

omit [FloatOps F] in
/-- A wait is allowed when everything still owed lies higher. -/
theorem mayWait_cell (c : Dev nD) (f : Fin 8) (i : Fin 4) (l : List (Fin 8 × Fin 4)) (h : ∀ x ∈ l, lvF f < lvF x.1) :
    (levAts L lv : sProp 𝕄) ⊢ MayWait (c : Thread nD τ) (csem (idx c f i)) () (owedL c l) :=
  mayWait_of c _ l (by rw [lv_fcell]; exact h)

omit [FloatOps F] in
/-- A staging wait: below everything. -/
theorem mayWait_stage (c : Dev nD) (q : DmaSem sig) (hq : q.val < 4) (l : List (Fin 8 × Fin 4)) (hl : l = L0 ∨ l = []) :
    (levAts L lv : sProp 𝕄) ⊢ MayWait (c : Thread nD τ) (.dma q) () (owedL c l) :=
  mayWait_of c _ l (by
    have h0 : lvS (.dma q) = 0 := if_neg (by omega)
    rw [h0]
    rcases hl with rfl | rfl
    · decide
    · decide)

end Cert.MoE

end
-- ==== Proof.Slots.lean ====
/-
# The parts of the buffers

A four-slot buffer is its four slots, the outgoing buffer its three, the result its four blocks of rows: split at whatever
they hold, joined again at what the parts hold. A part is read three times at once in three shares.
-/
module

public import proofs.«01_k».proof.Proof.Schedule

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- Sizes of one slot's box, and of one block of rows. -/
abbrev rA (s : Fin 4) : Rect S4x64x256 := Rect.unit (s := S4x64x256) ![s.val, 0, 0] S1x64x256.size (inbA s)
/-- A slot of the send buffer. -/
abbrev rP (s : Fin 3) : Rect S3x64x256 := Rect.unit (s := S3x64x256) ![s.val, 0, 0] S1x64x256.size (inbP s.val s.isLt)
/-- A row block of the output. -/
abbrev rO (s : Fin 4) : Rect S256x256 := Rect.unit (s := S256x256) ![64 * s.val, 0] S64x256.size (inbO s)

/-- Slots don't overlap, -/
theorem rA_disj (s t : Fin 4) (h : s ≠ t) : Disjoint (rA s).set (rA t).set :=
  Rect.unit_disjoint (0 : Fin 3) (by
    show s.val + 1 ≤ t.val ∨ t.val + 1 ≤ s.val
    have : s.val ≠ t.val := fun e => h (Fin.ext e)
    omega)
theorem rP_disj (s t : Fin 3) (h : s ≠ t) : Disjoint (rP s).set (rP t).set :=
  Rect.unit_disjoint (0 : Fin 3) (by
    show s.val + 1 ≤ t.val ∨ t.val + 1 ≤ s.val
    have : s.val ≠ t.val := fun e => h (Fin.ext e)
    omega)
theorem rO_disj (s t : Fin 4) (h : s ≠ t) : Disjoint (rO s).set (rO t).set :=
  Rect.unit_disjoint (0 : Fin 2) (by
    show 64 * s.val + 64 ≤ 64 * t.val ∨ 64 * t.val + 64 ≤ 64 * s.val
    have : s.val ≠ t.val := fun e => h (Fin.ext e)
    omega)

/-- and cover their buffers. -/
theorem rA_cov : (Finset.univ : Finset (Fin 4)).biUnion (fun t => (rA t).set) = Finset.univ := by
  refine Finset.eq_univ_of_forall fun i => Finset.mem_biUnion.mpr ⟨⟨(i 0).val, (i 0).isLt⟩, Finset.mem_univ _, Rect.mem_set_unit.mpr fun a => ?_⟩
  have h1 : (i 1).val < 64 := (i 1).isLt
  have h2 : (i 2).val < 256 := (i 2).isLt
  fin_cases a
  · exact ⟨le_refl _, Nat.lt_succ_self _⟩
  · exact ⟨Nat.zero_le _, by show (i 1).val < 0 + 64; omega⟩
  · exact ⟨Nat.zero_le _, by show (i 2).val < 0 + 256; omega⟩
theorem rP_cov : (Finset.univ : Finset (Fin 3)).biUnion (fun t => (rP t).set) = Finset.univ := by
  refine Finset.eq_univ_of_forall fun i => Finset.mem_biUnion.mpr ⟨⟨(i 0).val, (i 0).isLt⟩, Finset.mem_univ _, Rect.mem_set_unit.mpr fun a => ?_⟩
  have h1 : (i 1).val < 64 := (i 1).isLt
  have h2 : (i 2).val < 256 := (i 2).isLt
  fin_cases a
  · exact ⟨le_refl _, Nat.lt_succ_self _⟩
  · exact ⟨Nat.zero_le _, by show (i 1).val < 0 + 64; omega⟩
  · exact ⟨Nat.zero_le _, by show (i 2).val < 0 + 256; omega⟩
theorem rO_cov : (Finset.univ : Finset (Fin 4)).biUnion (fun t => (rO t).set) = Finset.univ := by
  refine Finset.eq_univ_of_forall fun i => ?_
  have h0 : (i 0).val < 256 := (i 0).isLt
  have h1 : (i 1).val < 256 := (i 1).isLt
  refine Finset.mem_biUnion.mpr ⟨⟨(i 0).val / 64, by omega⟩, Finset.mem_univ _, Rect.mem_set_unit.mpr fun a => ?_⟩
  fin_cases a
  · exact ⟨by show 64 * ((i 0).val / 64) ≤ (i 0).val; omega, by show (i 0).val < 64 * ((i 0).val / 64) + 64; omega⟩
  · exact ⟨Nat.zero_le _, by show (i 1).val < 0 + 256; omega⟩

/-- Contents of the parts of a disjoint family are contents of the whole. -/
theorem glue_exists {sh : Shape} {α : Type} [Nonempty α] {T : Type} (r : T → Rect sh) (hd : ∀ t t', t ≠ t' → Disjoint (r t).set (r t').set)
    (X : (t : T) → (r t).shape.Idx → α) : ∃ Y : sh.Idx → α, ∀ t j, Y ((r t).emb j) = X t j := by
  classical
  refine ⟨fun x => if h : ∃ t j, (r t).emb j = x then X h.choose h.choose_spec.choose else Classical.arbitrary α, fun t j => ?_⟩
  have h : ∃ t' j', (r t').emb j' = (r t).emb j := ⟨t, j, rfl⟩
  show (if h : ∃ t' j', (r t').emb j' = (r t).emb j then X h.choose h.choose_spec.choose else Classical.arbitrary α) = _
  rw [dif_pos h]
  have key : ∀ t' j', (r t').emb j' = (r t).emb j → X t' j' = X t j := by
    intro t' j' e
    by_cases ht : t' = t
    · subst ht; rw [(r t').emb.injective e]
    · have h1 : (r t').emb j' ∈ (r t').set := (r t').map_emb_univ ▸ Finset.mem_map_of_mem _ (Finset.mem_univ j')
      have h2 : (r t).emb j ∈ (r t).set := (r t).map_emb_univ ▸ Finset.mem_map_of_mem _ (Finset.mem_univ j)
      exact absurd (e ▸ h2) (Finset.disjoint_left.mp (hd t' t ht) h1)
  exact key _ _ h.choose_spec.choose_spec

/-- There are values of each type. -/
theorem val_inh (e : EltTy) : Nonempty (Elt F e) := inferInstance

/-- Forget the contents. -/
theorem to_some (c : Dev nD) {s : Shape} {e : EltTy} (M : Memref sig .tc .vmem s e) (X : s.Idx → Elt F e) :
    at_ c M fullShare X ⊢ some_ (F := F) c M := by
  iintro H; iexists X; iexact H

/-- A buffer at something is its parts at something; -/
theorem split_some (c : Dev nD) {s : Shape} {e : EltTy} (M : Memref sig .tc .vmem s e) {T : Type} [Fintype T] (r : T → Rect s)
    (hr : ∀ t a, (r t).stride a = 1) (hd : ∀ t t', t ≠ t' → Disjoint (r t).set (r t').set)
    (hcov : (Finset.univ : Finset T).biUnion (fun t => (r t).set) = Finset.univ) :
    some_ (F := F) c M ⊢ bigSep Finset.univ fun t => some_ (F := F) c (M.slice (r t) (hr t)) := by
  iintro ⟨%X, H⟩
  ihave H' := (owns_rects (c : Thread nD τ) M fullShare r hr hd hcov X) $$ H
  have hm : (bigSep Finset.univ fun t => at_ (F := F) c (M.slice (r t) (hr t)) fullShare (fun j => X ((r t).emb j)))
      ⊢ bigSep Finset.univ fun t => some_ (F := F) c (M.slice (r t) (hr t)) :=
    bigSep_mono fun t _ => to_some c _ _
  iapply hm; iexact H'
/-- and back. -/
theorem join_some (c : Dev nD) {s : Shape} {e : EltTy} (M : Memref sig .tc .vmem s e) {T : Type} [Fintype T] (r : T → Rect s)
    (hr : ∀ t a, (r t).stride a = 1) (hd : ∀ t t', t ≠ t' → Disjoint (r t).set (r t').set)
    (hcov : (Finset.univ : Finset T).biUnion (fun t => (r t).set) = Finset.univ) (X : (t : T) → (r t).shape.Idx → Elt F e) :
    (bigSep Finset.univ fun t => at_ (F := F) c (M.slice (r t) (hr t)) fullShare (X t)) ⊢ some_ (F := F) c M := by
  haveI := val_inh (F := F) e
  obtain ⟨Y, hY⟩ := glue_exists r hd X
  have hX : X = fun t j => Y ((r t).emb j) := funext fun t => funext fun j => (hY t j).symm
  rw [hX]
  classical
  iintro H
  iexists Y
  iapply (owns_of_rects (c : Thread nD τ) M fullShare r hr hd hcov Y)
  iexact H

/-- The blocks of the result put together. -/
def glueO (X : Fin 4 → S64x256.Idx → Elt F .f32) : S256x256.Idx → Elt F .f32 := fun i =>
  X ⟨(i 0).val / 64, by have h : (i 0).val < 256 := (i 0).isLt; omega⟩
    (fun a => match a with
      | ⟨0, _⟩ => ⟨(i 0).val % 64, Nat.mod_lt _ (by decide)⟩
      | ⟨1, _⟩ => ⟨(i 1).val, (i 1).isLt⟩)
/-- The glued output read in one row block. -/
theorem glueO_emb (X : Fin 4 → S64x256.Idx → Elt F .f32) (t : Fin 4) (j : S64x256.Idx) : glueO X ((rO t).emb j) = X t j := by
  have h0 : (j 0).val < 64 := (j 0).isLt
  have e0 : ((rO t).emb j 0).val = 64 * t.val + 1 * (j 0).val := rfl
  have e1 : ((rO t).emb j 1).val = 0 + 1 * (j 1).val := rfl
  unfold glueO
  have ht : (⟨((rO t).emb j 0).val / 64, by omega⟩ : Fin 4) = t := Fin.ext (by show ((rO t).emb j 0).val / 64 = t.val; omega)
  refine (congrFun (congrArg X ht) _).trans (congrArg (X t) ?_)
  · funext a
    match a with
    | ⟨0, _⟩ => exact Fin.ext (by show ((rO t).emb j 0).val % 64 = (j 0).val; omega)
    | ⟨1, _⟩ => exact Fin.ext (by show ((rO t).emb j 1).val = (j 1).val; omega)
/-- The result's blocks are the result. -/
theorem join_O (c : Dev nD) (X : Fin 4 → S64x256.Idx → Elt F .f32) :
    (bigSep Finset.univ fun t => at_ (F := F) c (slO t) fullShare (X t)) ⊢ at_ c MO fullShare (glueO X) := by
  have hX : (bigSep Finset.univ fun t => at_ (F := F) c (slO t) fullShare (X t))
      = bigSep Finset.univ fun t => at_ (F := F) c (slO t) fullShare (fun j => glueO X ((rO t).emb j)) :=
    bigSep_congr fun t _ => congrArg (at_ c (slO t) fullShare) (funext fun j => (glueO_emb X t j).symm)
  rw [hX]
  exact owns_of_rects (c : Thread nD τ) MO fullShare rO (fun _ _ => rfl) rO_disj rO_cov (glueO X)

/-! ## Four parts, counted from one of them -/

/-- Counting from `b`. -/
def addE (b : Fin 4) : Fin 4 ≃ Fin 4 where
  toFun i := b + i
  invFun i := i - b
  left_inv i := f4_sub_cancel b i
  right_inv i := by revert b i; decide

/-- Four conjuncts, counted from any of them. -/
theorem four (b : Fin 4) (R : Fin 4 → sProp 𝕄) : bigSep Finset.univ R = iprop(R b ∗ R (b + 1) ∗ R (b + 2) ∗ R (b + 3)) := by
  rw [bigSep_univ_equiv (addE b) R, bigSep_univ_eq_bigSepL [0, 1, 2, 3] (by decide) (by decide)]
  show iprop(R (b + 0) ∗ R (b + 1) ∗ R (b + 2) ∗ R (b + 3)) = _
  rw [f4_add_zero]
/-- Three conjuncts. -/
theorem three (R : Fin 3 → sProp 𝕄) : bigSep Finset.univ R = iprop(R 0 ∗ R 1 ∗ R 2) := by
  rw [bigSep_univ_eq_bigSepL [0, 1, 2] (by decide) (by decide)]; rfl

/-! ## One part in three shares -/

/-- Two shares of a buffer join, -/
theorem at_join (c : Dev nD) {s : Shape} {e : EltTy} (M : Memref sig .tc .vmem s e) (q q₁ q₂ : PosShare TreeShare) (hq : q ∈ PCS.op q₁ q₂) (X : s.Idx → Elt F e) :
    iprop(at_ c M q₁ X ∗ at_ c M q₂ X) ⊢ at_ c M q X := by
  unfold at_ owns
  iintro ⟨⟨%f, %hf, Hf⟩, %g, %hg, Hg⟩
  have e : (M.view.loc (c : Thread nD τ) ↦[M.view.set]{q₂} g : sProp 𝕄) = M.view.loc (c : Thread nD τ) ↦[M.view.set]{q₂} f :=
    pointsTo_congr fun i hi => by
      rw [View.set, Finset.mem_map] at hi
      obtain ⟨x, -, rfl⟩ := hi
      have := congrFun (hg.trans hf.symm) x
      simp only [View.read] at this
      exact (cast_inj _).mp this
  ihave Hg' := (Entails.of_eq e) $$ Hg
  iexists f
  isplitr; · ipureintro; exact hf
  iapply ((pointsTo_share hq).2)
  isplitl [Hf]; · iexact Hf
  iexact Hg'
/-- and split. -/
theorem at_split (c : Dev nD) {s : Shape} {e : EltTy} (M : Memref sig .tc .vmem s e) (q q₁ q₂ : PosShare TreeShare) (hq : q ∈ PCS.op q₁ q₂) (X : s.Idx → Elt F e) :
    at_ c M q X ⊢ iprop(at_ c M q₁ X ∗ at_ c M q₂ X) := by
  unfold at_ owns
  iintro ⟨%f, %hf, Hf⟩
  ihave H := ((pointsTo_share hq).1) $$ Hf
  icases H with ⟨H1, H2⟩
  isplitl [H1]
  · iexists f; isplitr; · ipureintro; exact hf
    iexact H1
  · iexists f; isplitr; · ipureintro; exact hf
    iexact H2

/-- A buffer in three shares, -/
theorem three_split (c : Dev nD) {s : Shape} {e : EltTy} (M : Memref sig .tc .vmem s e) (X : s.Idx → Elt F e) :
    at_ c M fullShare X ⊢ iprop(at_ c M (sh 1) X ∗ at_ c M (sh 2) X ∗ at_ c M (sh 3) X) :=
  (at_split c M _ _ _ (PosShare.mem_left_op_right fullShare) X).trans
    (sep_mono_right (at_split c M _ _ _ (PosShare.mem_left_op_right fullShare.right) X))
/-- and whole again. -/
theorem three_join (c : Dev nD) {s : Shape} {e : EltTy} (M : Memref sig .tc .vmem s e) (X : s.Idx → Elt F e) :
    iprop(at_ c M (sh 1) X ∗ at_ c M (sh 2) X ∗ at_ c M (sh 3) X) ⊢ at_ c M fullShare X :=
  (sep_mono_right (at_join c M _ _ _ (PosShare.mem_left_op_right fullShare.right) X)).trans
    (at_join c M _ _ _ (PosShare.mem_left_op_right fullShare) X)

end Cert.MoE

end
-- ==== Proof.Ops.lean ====
/-
# The steps of a device

What a device holds beside the parts of its buffers — what it owes, its credits, its positions, its tokens, and for good
the invariant of every cell — and one rule for each kind of operation of the kernel, in those terms.
-/
module

public import proofs.«01_k».proof.Proof.Owed
public import proofs.«01_k».proof.Proof.Slots

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- No loop variants are needed. -/
abbrev 𝒱₀ : Variants := Variants.none

/-- A device's program run to `Q`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, its round reached. -/
def recs (K : Dev nD × JIdx → ℕ) : sProp 𝕄 :=
  iprop(bigSep Finset.univ (fun cj : Dev nD × JIdx => cellInv ER (Rd m ρ) (K cj) (kcell cj))
    ∗ bigSep Finset.univ (fun cj : Dev nD × JIdx => reached ER (kcell cj) 0))

/-- The record of invariants may be used again and again. -/
instance recs_persistent (K : Dev nD × JIdx → ℕ) : BI.Persistent (recs m ρ K) := by unfold recs; infer_instance

/-- One cell's invariant from the record, -/
theorem inv_at (K : Dev nD × JIdx → ℕ) (c : Dev nD) (j : JIdx) : recs m ρ K ⊢ cellInv ER (Rd m ρ) (K (c, j)) (kcell (c, j)) := by
  have h : (bigSep Finset.univ fun cj : Dev nD × JIdx => cellInv ER (Rd m ρ) (K cj) (kcell cj)) ⊢ cellInv ER (Rd m ρ) (K (c, j)) (kcell (c, j)) :=
    bigSep_elim (Finset.mem_univ ((c, j) : Dev nD × JIdx))
  unfold recs
  iintro ⟨H, -⟩
  iapply h; iexact H
/-- and that its first round has begun. -/
theorem reached_at (K : Dev nD × JIdx → ℕ) (c : Dev nD) (j : JIdx) : recs m ρ K ⊢ reached ER (kcell (c, j)) 0 := by
  have h : (bigSep Finset.univ fun cj : Dev nD × JIdx => (reached ER (kcell cj) 0 : sProp 𝕄)) ⊢ reached ER (kcell (c, j)) 0 :=
    bigSep_elim (Finset.mem_univ ((c, j) : Dev nD × JIdx))
  unfold recs
  iintro ⟨-, H⟩
  iapply h; iexact H

/-- What is left to pay. -/
def ow (c : Dev nD) (l : List (Fin 8 × Fin 4)) : sProp 𝕄 := iprop(∃ W, owes (c : Thread nD τ) (owedL c l) W)
/-- The position at a cell before its round, -/
abbrev pos (c : Dev nD) (f : Fin 8) (i : Fin 4) : sProp 𝕄 := atPos ER (fcell c f i) 0 ∅ 0
/-- and after. -/
abbrev pos1 (c : Dev nD) (f : Fin 8) (i : Fin 4) : sProp 𝕄 := atPos ER (fcell c f i) (0 + 1) ∅ 0
/-- Credit for a transfer; -/
abbrev crd (c : Dev nD) (f : Fin 8) (i : Fin 4) : sProp 𝕄 := cred (tallyAt (fcell c f i) () (amt f))
/-- for the three units of a regular semaphore. -/
abbrev crd3 (c : Dev nD) (f : Fin 8) : sProp 𝕄 := cred (tallyAt (fcell c f 0) () 3)
/-- The token of the payment `i` of family `f` a device makes. -/
abbrev tok (d : Dev nD) (f : Fin 8) (i : Fin 4) : sProp 𝕄 := dutyTok ER (fcell (pay f i d) f i) 0 i

variable (K : Dev nD × JIdx → ℕ)

/-- A load of part of what is held. -/
theorem wp_ld (c : Dev nD) {s : Shape} {e : EltTy} (M : Memref sig .tc .vmem s e) (r : Rect s) {hl : M.view.LoadsAt r.toLoadRect}
    (q : PosShare TreeShare) (X : s.Idx → Elt F e)
    {α : Type} {Q : α → sProp 𝕄} {k : (r.toLoadRect.shape.Idx → Elt F e) → Prog (TpuEff nD τ sig (Elt F) Λ₀ .tc) α} :
    at_ c M q X ⊢ iprop((at_ c M q X -∗ Run c (k (fun j => X (r.emb j))) Q) -∗ Run c (.op (.load M r.toLoadRect hl) k) Q) := by
  unfold at_ owns
  iintro ⟨%f, %hf, H⟩ Hk
  iapply (wp_load 𝒱₀ (c : Thread nD τ) none Set.univ (m := M) (r := r.toLoadRect) (View.setOn_subset_set _ _)) $$ H
  iintro H
  have e : M.view.readAt (Elt F) r.toLoadRect f = fun j => X (r.emb j) := by
    rw [← hf]; rfl
  rw [e]
  iapply Hk
  iexists f; isplitr; · ipureintro; exact hf
  iexact H

/-- A load of a part that is held. -/
theorem wp_ld_slot (c : Dev nD) {s : Shape} {e : EltTy} (M : Memref sig .tc .vmem s e) (r : Rect s) (hr : ∀ a, r.stride a = 1) {hl : M.view.LoadsAt r.toLoadRect}
    (q : PosShare TreeShare) (X : r.shape.Idx → Elt F e)
    {α : Type} {Q : α → sProp 𝕄} {k : (r.toLoadRect.shape.Idx → Elt F e) → Prog (TpuEff nD τ sig (Elt F) Λ₀ .tc) α} :
    at_ c (M.slice r hr) q X ⊢ iprop((at_ c (M.slice r hr) q X -∗ Run c (k X) Q) -∗ Run c (.op (.load M r.toLoadRect hl) k) Q) := by
  unfold at_ owns
  iintro ⟨%f, %hf, H⟩ Hk
  iapply (wp_load_rect 𝒱₀ (c : Thread nD τ) none Set.univ (m := M) (r := r) (S := (M.slice r hr).view.set) (fun _ h => h)) $$ H
  iintro H
  have e : (M.access r).read (Elt F) f = X := hf
  rw [e]
  iapply Hk
  iexists f; isplitr; · ipureintro; exact hf
  iexact H

/-- A store to a part that is held. -/
theorem wp_st_slot (c : Dev nD) {s : Shape} {e : EltTy} (M : Memref sig .tc .vmem s e) (r : Rect s) (hr : ∀ a, r.stride a = 1)
    (X w : r.shape.Idx → Elt F e) {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    at_ c (M.slice r hr) fullShare X
      ⊢ iprop((at_ c (M.slice r hr) fullShare w -∗ Run c (k ⟨⟩) Q) -∗ Run c (.op (.store M r w Finset.univ hx hm) k) Q) := by
  unfold at_ owns
  iintro ⟨%f, %hf, H⟩ Hk
  iapply (wp_store 𝒱₀ (c : Thread nD τ) none Set.univ (m := M) (r := r) (Mk := Finset.univ) (S := (M.slice r hr).view.set)
    (View.setOn_subset_set (M.access r) _)) $$ H
  iintro H
  iapply Hk
  iexists _; isplitr
  · ipureintro; exact View.read_write_univ (v := M.access r) f w
  iexact H

/-- A signal: the duty's payload handed in. -/
theorem wp_sig (c n : Dev nD) (f : Fin 8) (i : Fin 4) (hi : i ≠ 0) (hf : amt f = 1) (l : List (Fin 8 × Fin 4)) (hn : n = pay f i c) (sem : Sem sig)
    (hsem : (SemLoc.reg sem : SemLoc sig) = csem (idx n f i))
    {α : Type} {Q : α → sProp 𝕄} {k : PUnit → Prog (TpuEff nD τ sig (Elt F) Λ₀ .tc) α} :
    iprop(recs m ρ K ∗ ow c ((f, i) :: l) ∗ tok (F := F) c f i ∗ (Rd m ρ).payload (fcell n f i) 0 i)
      ⊢ iprop((ow c l -∗ Run c (k ⟨⟩) Q) -∗ Run c (.op (.semSignal (n : Thread nD τ) sem (1#32).toInt) k) Q) := by
  subst hn
  iintro ⟨#HR, HO, Ht, Hp⟩ Hk
  unfold ow
  icases HO with ⟨%W, HO⟩
  iapply (Rounds.wp_signal 𝒱₀ ER (Rd m ρ) (c : Thread nD τ) none (dst := (pay f i c : Thread nD τ)) (κ := K (pay f i c, idx _ f i)) (k' := 1) (sem := sem)
      (d := i) (r := 0) (by rw [hsem]; exact mem_duties m ρ _ f i hi) (by rw [hsem]; exact (amount_eq m ρ _ f i i).trans hf) () (O₀ := owedL c ((f, i) :: l)) (owedL c l)
      (by rw [hsem, ← hf]; rfl) (W := W)) $$ [HO Ht Hp]
  · rw [hsem]
    isplitr; · iapply (inv_at m ρ K); iexact HR
    isplitl [HO]; · iexact HO
    isplitl [Ht]; · iexact Ht
    isplitl [Hp]; · iexact Hp
    iapply (reached_at m ρ K); iexact HR
  iintro HO
  iapply Hk
  iexists W; iexact HO

/-- The wait for the three units of a regular semaphore. -/
theorem wp_wt3 (c : Dev nD) (f : Fin 8) (hf : f.val < 2) (l : List (Fin 8 × Fin 4)) (hl : ∀ x ∈ l, lvF f < lvF x.1) (sem : Sem sig)
    (hsem : (SemLoc.reg sem : SemLoc sig) = csem (idx c f 0))
    {α : Type} {Q : α → sProp 𝕄} {k : PUnit → Prog (TpuEff nD τ sig (Elt F) Λ₀ .tc) α} :
    iprop(recs m ρ K ∗ levAts L lv ∗ crd3 (F := F) c f ∗ ow c l ∗ pos (F := F) c f 0)
      ⊢ iprop(((ow c l ∗ pos1 (F := F) c f 0 ∗ (Rd m ρ).payload (fcell c f 0) 0 1 ∗ (Rd m ρ).payload (fcell c f 0) 0 2 ∗ (Rd m ρ).payload (fcell c f 0) 0 3)
          -∗ Run c (k ⟨⟩) Q) -∗ Run c (.op (.semWait sem (3#32).toInt) k) Q) := by
  iintro ⟨#HR, #HL, Hc, HO, Hp⟩ Hk
  unfold ow
  icases HO with ⟨%W, HO⟩
  iapply (Rounds.wp_wait_rest_token 𝒱₀ ER (Rd m ρ) (c : Thread nD τ) none (κ := K (c, idx c f 0)) (sm := csem (idx c f 0)) (k' := 3)
      (by rw [← hsem]; exact wpE_semWait_eq 𝒱₀ (c : Thread nD τ) none Set.univ) (Set.mem_univ _) () (O := owedL c l) (W := W) (R := 0) (m := 0) (T := ∅)
      (by rw [Nat.zero_add]; exact (expect_reg m ρ c f hf 0).symm)) $$ [Hc HO Hp]
  · isplitr; · iapply (inv_at m ρ K); iexact HR
    isplitl [Hc]; · iexact Hc
    isplitl [HO]; · iexact HO
    isplitr; · iapply (mayWait_cell c f 0 l hl); iexact HL
    iexact Hp
  iintro ⟨HO, Hp, -, Hpay⟩
  ihave Hpay := (Entails.of_eq (rest_reg m ρ c f hf 0)) $$ Hpay
  iapply Hk
  isplitl [HO]; · iexists _; iexact HO
  isplitl [Hp]; · iexact Hp
  iexact Hpay

/-- The wait for a transfer. -/
theorem wp_wt (c : Dev nD) (f : Fin 8) (i : Fin 4) (hf : 2 ≤ f.val) (hi : i ≠ 0) (l : List (Fin 8 × Fin 4)) (hl : ∀ x ∈ l, lvF f < lvF x.1) (q : DmaSem sig)
    (hq : (SemLoc.dma q : SemLoc sig) = csem (idx c f i))
    {s : Shape} {e : EltTy} {src dst : Memref sig .tc .vmem s e} {hsrc : src.view.WordExact} {hdst : dst.view.WordExact} (hN : dst.view.dmaCredit = amt f)
    {α : Type} {Q : α → sProp 𝕄} {k : PUnit → Prog (TpuEff nD τ sig (Elt F) Λ₀ .tc) α} :
    iprop(recs m ρ K ∗ levAts L lv ∗ crd (F := F) c f i ∗ ow c l ∗ pos (F := F) c f i)
      ⊢ iprop(((ow c l ∗ pos1 (F := F) c f i ∗ xPay m ρ c (krow f) i) -∗ Run c (k ⟨⟩) Q) -∗ Run c (.op (.waitDma2 q src dst hsrc hdst) k) Q) := by
  iintro ⟨#HR, #HL, Hc, HO, Hp⟩ Hk
  unfold ow
  icases HO with ⟨%W, HO⟩
  iapply (Rounds.wp_wait_rest_token 𝒱₀ ER (Rd m ρ) (c : Thread nD τ) none (κ := K (c, idx c f i)) (sm := csem (idx c f i)) (k' := amt f)
      (by rw [← hq, ← hN]; exact wpE_waitDma2_eq 𝒱₀ (c : Thread nD τ) none Set.univ) (Set.mem_univ _) () (O := owedL c l) (W := W) (R := 0) (m := 0) (T := ∅)
      (by rw [Nat.zero_add]; exact (expect_xfer m ρ c f hf i hi).symm)) $$ [Hc HO Hp]
  · isplitr; · iapply (inv_at m ρ K); iexact HR
    isplitl [Hc]; · iexact Hc
    isplitl [HO]; · iexact HO
    isplitr; · iapply (mayWait_cell c f i l hl); iexact HL
    iexact Hp
  iintro ⟨HO, Hp, -, Hpay⟩
  ihave Hpay := (Entails.of_eq (rest_xfer m ρ c f hf i hi)) $$ Hpay
  iapply Hk
  isplitl [HO]; · iexists _; iexact HO
  isplitl [Hp]; · iexact Hp
  iexact Hpay

/-- A transfer, of whatever parts hand over its two payloads. -/
theorem wp_snd (c n : Dev nD) (fS fR : Fin 8) (iS iR : Fin 4) (hfS : 2 ≤ fS.val) (hfR : 2 ≤ fR.val) (hiS : iS ≠ 0) (hiR : iR ≠ 0) (hff : amt fS = amt fR)
    (l : List (Fin 8 × Fin 4)) (hn : n = pay fR iR c) (hself : pay fS iS c = c)
    {s : Shape} {e : EltTy} {S D : Memref sig .tc .vmem s e} {sS sR : SemLoc sig} (hsS : sS = csem (idx c fS iS)) (hsR : sR = csem (idx n fR iR))
    (hN : D.view.amount sR = amt fR) (q : PosShare TreeShare) (fs : Buf (Elt F) (S.view.loc (c : Thread nD τ))) (fd : Buf (Elt F) (D.view.loc (n : Thread nD τ)))
    (hp1 : (S.view.loc (c : Thread nD τ) ↦[S.view.set]{q} fs) ⊢ xPay m ρ c (krow fS) iS)
    (hp2 : (D.view.loc (n : Thread nD τ) ↦[D.view.set]{fullShare} D.view.write (Elt F) fd (S.view.read (Elt F) fs) Finset.univ) ⊢ xPay m ρ n (krow fR) iR)
    {hsc : (D : Memref sig (Dev.tc n : Thread nD τ).2.kind .vmem s e).view.ref.isScScratch = false}
    {hsrc : S.view.WordExact} {hdst : D.view.WordExact} {hsem : DmaTarget.Typed .vmem sR (.remote (Dev.tc n : Thread nD τ) D sS hsc)}
    {α : Type} {Q : α → sProp 𝕄} {k : PUnit → Prog (TpuEff nD τ sig (Elt F) Λ₀ .tc) α} :
    iprop(recs m ρ K ∗ (S.view.loc (c : Thread nD τ) ↦[S.view.set]{q} fs) ∗ (D.view.loc (n : Thread nD τ) ↦[D.view.set]{fullShare} fd)
        ∗ ow c ((fR, iR) :: l) ∗ tok (F := F) c fS iS ∗ tok (F := F) c fR iR)
      ⊢ iprop(((crd (F := F) c fS iS ∗ ow c l) -∗ Run c (k ⟨⟩) Q)
          -∗ Run c (.op (.enqueueDma S (.remote (Dev.tc n : Thread nD τ) D sS hsc) sR hsrc hdst hsem) k) Q) := by
  subst hsS hsR
  iintro ⟨#HR, HS, HD, HO, HtS, HtR⟩ Hk
  unfold ow
  icases HO with ⟨%W, HO⟩
  unfold tok
  rw [hself, ← hn]
  iapply (Rounds.wp_send_pointsTo 𝒱₀ ER (Rd m ρ) (c : Thread nD τ) none (κ₁ := K (c, idx c fS iS)) (κ₂ := K (n, idx n fR iR))
      (r₁ := 0) (r₂ := 0) (d₁ := iS) (d₂ := iR) (fs := fs) (fd := fd)
      (mem_duties m ρ c fS iS hiS) (mem_duties m ρ n fR iR hiR) () () (amt fR) hN ((amount_eq m ρ c fS iS iS).trans hff) (amount_eq m ρ n fR iR iR)
      (O₀ := owedL c ((fR, iR) :: l)) (owedL c l) (by subst hn; rfl) (W := W)
      (by rw [payload_xfer m ρ c fS hfS]; exact hp1) (by rw [payload_xfer m ρ n fR hfR]; exact hp2)) $$ [HS HD HO HtS HtR]
  · isplitr; · iapply (inv_at m ρ K); iexact HR
    isplitr; · iapply (inv_at m ρ K); iexact HR
    isplitl [HS]; · iexact HS
    isplitl [HD]; · iexact HD
    isplitl [HO]; · iexact HO
    isplitl [HtS]; · iexact HtS
    isplitr; · iapply (reached_at m ρ K); iexact HR
    isplitl [HtR]; · iexact HtR
    iapply (reached_at m ρ K); iexact HR
  iintro ⟨Hc, HO⟩
  iapply Hk
  isplitl [Hc]; · unfold crd; rw [hff]; iexact Hc
  iexists W; iexact HO

/-- A landing read through the shape it was sent in reads what was sent. -/
theorem read_landed {s s' : Shape} {e : EltTy} (S D : Memref sig .tc .vmem s e) (h : s'.numel = s.numel) (fs : S.view.ty.Contents (Elt F)) (fd : D.view.ty.Contents (Elt F)) :
    D.view.read (Elt F) ((D.view.reshape s' h).write (Elt F) fd ((S.view.reshape s' h).read (Elt F) fs) Finset.univ) = S.view.read (Elt F) fs := by
  have e1 := View.read_write_univ (v := D.view.reshape s' h) fd ((S.view.reshape s' h).read (Elt F) fs)
  funext j
  have := congrFun e1 ((Shape.reshapeEquiv h).symm j)
  simp only [View.read_apply, View.emb_reshape, Function.Embedding.trans_apply, Equiv.coe_toEmbedding, Equiv.apply_symm_apply] at this ⊢
  exact this

/-- A transfer of a slot through the shape without its leading axis. -/
theorem wp_snd_sq (c n : Dev nD) (fS fR : Fin 8) (iS iR : Fin 4) (hfS : 2 ≤ fS.val) (hfR : 2 ≤ fR.val) (hiS : iS ≠ 0) (hiR : iR ≠ 0) (hff : amt fS = amt fR)
    (l : List (Fin 8 × Fin 4)) (hn : n = pay fR iR c) (hself : pay fS iS c = c)
    {s s' : Shape} {e : EltTy} (S D : Memref sig .tc .vmem s e) (hq : s.Squeezes s') {sS sR : SemLoc sig} (hsS : sS = csem (idx c fS iS)) (hsR : sR = csem (idx n fR iR))
    (hN : (D.squeeze s' hq).view.amount sR = amt fR) (q : PosShare TreeShare) (X : s.Idx → Elt F e)
    (hp1 : at_ c S q X ⊢ xPay m ρ c (krow fS) iS) (hp2 : at_ n D fullShare X ⊢ xPay m ρ n (krow fR) iR)
    {hsc : (D.squeeze s' hq : Memref sig (Dev.tc n : Thread nD τ).2.kind .vmem s' e).view.ref.isScScratch = false}
    {hsrc : (S.squeeze s' hq).view.WordExact} {hdst : (D.squeeze s' hq).view.WordExact}
    {hsem : DmaTarget.Typed .vmem sR (.remote (Dev.tc n : Thread nD τ) (D.squeeze s' hq) sS hsc)}
    {α : Type} {Q : α → sProp 𝕄} {k : PUnit → Prog (TpuEff nD τ sig (Elt F) Λ₀ .tc) α} :
    iprop(recs m ρ K ∗ at_ c S q X ∗ some_ (F := F) n D ∗ ow c ((fR, iR) :: l) ∗ tok (F := F) c fS iS ∗ tok (F := F) c fR iR)
      ⊢ iprop(((crd (F := F) c fS iS ∗ ow c l) -∗ Run c (k ⟨⟩) Q)
          -∗ Run c (.op (.enqueueDma (S.squeeze s' hq) (.remote (Dev.tc n : Thread nD τ) (D.squeeze s' hq) sS hsc) sR hsrc hdst hsem) k) Q) := by
  unfold some_ at_ owns
  iintro ⟨#HR, ⟨%fs, %hfs, HS⟩, ⟨%Y, %fd, %hfd, HD⟩, HO, HtS, HtR⟩ Hk
  iapply (wp_snd m ρ K c n fS fR iS iR hfS hfR hiS hiR hff l hn hself (S := S.squeeze s' hq) (D := D.squeeze s' hq) hsS hsR hN q fs fd
    (by
      refine BIBase.Entails.trans ?_ hp1
      unfold at_ owns
      iintro H; iexists fs; isplitr; · ipureintro; exact hfs
      simp only [Memref.view_squeeze, View.set_reshape]; iexact H)
    (by
      refine BIBase.Entails.trans ?_ hp2
      unfold at_ owns
      iintro H; iexists _; isplitr
      · ipureintro; exact (read_landed S D hq.numel_eq fs fd).trans hfs
      simp only [Memref.view_squeeze, View.set_reshape]; iexact H)) $$ [HS HD HO HtS HtR]
  · isplitr; · iexact HR
    isplitl [HS]; · simp only [Memref.view_squeeze, View.set_reshape]; iexact HS
    isplitl [HD]; · simp only [Memref.view_squeeze, View.set_reshape]; iexact HD
    isplitl [HO]; · iexact HO
    isplitl [HtS]; · iexact HtS
    iexact HtR
  iexact Hk

/-- A transfer of a part as it is. -/
theorem wp_snd_id (c n : Dev nD) (fS fR : Fin 8) (iS iR : Fin 4) (hfS : 2 ≤ fS.val) (hfR : 2 ≤ fR.val) (hiS : iS ≠ 0) (hiR : iR ≠ 0) (hff : amt fS = amt fR)
    (l : List (Fin 8 × Fin 4)) (hn : n = pay fR iR c) (hself : pay fS iS c = c)
    {s : Shape} {e : EltTy} (S D : Memref sig .tc .vmem s e) {sS sR : SemLoc sig} (hsS : sS = csem (idx c fS iS)) (hsR : sR = csem (idx n fR iR))
    (hN : D.view.amount sR = amt fR) (q : PosShare TreeShare) (X : s.Idx → Elt F e)
    (hp1 : at_ c S q X ⊢ xPay m ρ c (krow fS) iS) (hp2 : at_ n D fullShare X ⊢ xPay m ρ n (krow fR) iR)
    {hsc : (D : Memref sig (Dev.tc n : Thread nD τ).2.kind .vmem s e).view.ref.isScScratch = false}
    {hsrc : S.view.WordExact} {hdst : D.view.WordExact}
    {hsem : DmaTarget.Typed .vmem sR (.remote (Dev.tc n : Thread nD τ) D sS hsc)}
    {α : Type} {Q : α → sProp 𝕄} {k : PUnit → Prog (TpuEff nD τ sig (Elt F) Λ₀ .tc) α} :
    iprop(recs m ρ K ∗ at_ c S q X ∗ some_ (F := F) n D ∗ ow c ((fR, iR) :: l) ∗ tok (F := F) c fS iS ∗ tok (F := F) c fR iR)
      ⊢ iprop(((crd (F := F) c fS iS ∗ ow c l) -∗ Run c (k ⟨⟩) Q)
          -∗ Run c (.op (.enqueueDma S (.remote (Dev.tc n : Thread nD τ) D sS hsc) sR hsrc hdst hsem) k) Q) := by
  unfold some_ at_ owns
  iintro ⟨#HR, ⟨%fs, %hfs, HS⟩, ⟨%Y, %fd, %hfd, HD⟩, HO, HtS, HtR⟩ Hk
  iapply (wp_snd m ρ K c n fS fR iS iR hfS hfR hiS hiR hff l hn hself (S := S) (D := D) hsS hsR hN q fs fd
    (by
      refine BIBase.Entails.trans ?_ hp1
      unfold at_ owns
      iintro H; iexists fs; isplitr; · ipureintro; exact hfs
      iexact H)
    (by
      refine BIBase.Entails.trans ?_ hp2
      unfold at_ owns
      iintro H; iexists _; isplitr
      · ipureintro; exact (View.read_write_univ (v := D.view) fd _).trans hfs
      iexact H)) $$ [HS HD HO HtS HtR]
  · isplitr; · iexact HR
    isplitl [HS]; · iexact HS
    isplitl [HD]; · iexact HD
    isplitl [HO]; · iexact HO
    isplitl [HtS]; · iexact HtS
    iexact HtR
  iexact Hk

end Cert.MoE

end
-- ==== Proof.Steps.lean ====
/-
# The printed operations

The kernel's own spellings of its offsets, semaphores and buffer parts, at the device's coordinates; and the rule for each
kind of operation in those spellings.
-/
module

public import proofs.«01_k».proof.Proof.Ops

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Offsets -/

/-- The offsets that the body computes, in places and planes. -/
theorem off1_1 (c : Dev nD) : k0_off1 c 1#32 = ![64 * (pc c + 1).val, 0] := (k0_off1_eq c 0).trans (by revert c; decide)
theorem off2_1 (c : Dev nD) : k0_off2 c 1#32 = ![64 * (pc c + 1).val, 0] := (k0_off2_eq c 0).trans (by revert c; decide)
theorem off7_1 (c : Dev nD) : k0_off7 c 1#32 = ![(pc c + 1).val] := (k0_off7_eq c 0).trans (by revert c; decide)
theorem off9_1 (c : Dev nD) : k0_off9 c 1#32 = ![(pc c + 1).val, 0, 0] := (k0_off9_eq c 0).trans (by revert c; decide)
theorem off13_1 (c : Dev nD) : k0_off13 c 1#32 = ![(zc c + 1).val] := (k0_off13_eq c 0).trans (by revert c; decide)
theorem off15_1 (c : Dev nD) : k0_off15 c 1#32 = ![(zc c + 1).val, 0, 0] := (k0_off15_eq c 0).trans (by revert c; decide)
theorem off1_2 (c : Dev nD) : k0_off1 c 2#32 = ![64 * (pc c + 2).val, 0] := (k0_off1_eq c 1).trans (by revert c; decide)
theorem off2_2 (c : Dev nD) : k0_off2 c 2#32 = ![64 * (pc c + 2).val, 0] := (k0_off2_eq c 1).trans (by revert c; decide)
theorem off7_2 (c : Dev nD) : k0_off7 c 2#32 = ![(pc c + 2).val] := (k0_off7_eq c 1).trans (by revert c; decide)
theorem off9_2 (c : Dev nD) : k0_off9 c 2#32 = ![(pc c + 2).val, 0, 0] := (k0_off9_eq c 1).trans (by revert c; decide)
theorem off13_2 (c : Dev nD) : k0_off13 c 2#32 = ![(zc c + 2).val] := (k0_off13_eq c 1).trans (by revert c; decide)
theorem off15_2 (c : Dev nD) : k0_off15 c 2#32 = ![(zc c + 2).val, 0, 0] := (k0_off15_eq c 1).trans (by revert c; decide)
theorem off1_3 (c : Dev nD) : k0_off1 c 3#32 = ![64 * (pc c + 3).val, 0] := (k0_off1_eq c 2).trans (by revert c; decide)
theorem off2_3 (c : Dev nD) : k0_off2 c 3#32 = ![64 * (pc c + 3).val, 0] := (k0_off2_eq c 2).trans (by revert c; decide)
theorem off7_3 (c : Dev nD) : k0_off7 c 3#32 = ![(pc c + 3).val] := (k0_off7_eq c 2).trans (by revert c; decide)
theorem off9_3 (c : Dev nD) : k0_off9 c 3#32 = ![(pc c + 3).val, 0, 0] := (k0_off9_eq c 2).trans (by revert c; decide)
theorem off13_3 (c : Dev nD) : k0_off13 c 3#32 = ![(zc c + 3).val] := (k0_off13_eq c 2).trans (by revert c; decide)
theorem off15_3 (c : Dev nD) : k0_off15 c 3#32 = ![(zc c + 3).val, 0, 0] := (k0_off15_eq c 2).trans (by revert c; decide)
/-- The same where the body uses its own place or plane. -/
theorem off3_c (c : Dev nD) : k0_off3 c = ![(pc c).val] := (k0_off3_eq c).trans (by revert c; decide)
theorem off4_c (c : Dev nD) : k0_off4 c = ![(pc c).val, 0, 0] := (k0_off4_eq c).trans (by revert c; decide)
theorem off5_c (c : Dev nD) : k0_off5 c = ![64 * (pc c).val, 0] := (k0_off5_eq c).trans (by revert c; decide)
theorem off6_c (c : Dev nD) : k0_off6 c = ![64 * (pc c).val, 0] := (k0_off6_eq c).trans (by revert c; decide)
theorem off10_c (c : Dev nD) : k0_off10 c = ![(zc c).val, 0, 0] := (k0_off10_eq c).trans (by revert c; decide)
theorem off11_c (c : Dev nD) : k0_off11 c = ![(zc c).val] := (k0_off11_eq c).trans (by revert c; decide)
theorem off12_c (c : Dev nD) : k0_off12 c = ![(zc c).val, 0, 0] := (k0_off12_eq c).trans (by revert c; decide)
theorem off16_c (c : Dev nD) : k0_off16 c = ![64 * (pc c).val, 0] := (k0_off16_eq c).trans (by revert c; decide)
theorem off17_c (c : Dev nD) : k0_off17 c = ![64 * (pc c).val, 0] := (k0_off17_eq c).trans (by revert c; decide)

/-! ## Semaphores -/

/-- The semaphores at these offsets. -/
theorem sem7_of {off : Fin 1 → ℕ} {inb} (j : Fin 4) (h : off = ![j.val]) :
    ((cc0_scratch3.slice (Rect.unit (s := S4) off S1.size inb)).squeeze S_ squeezes_S1_S_).sem = dsem 0 j := by
  subst h; revert j; decide
theorem sem8_of {off : Fin 1 → ℕ} {inb} (j : Fin 4) (h : off = ![j.val]) :
    ((cc0_scratch4.slice (Rect.unit (s := S4) off S1.size inb)).squeeze S_ squeezes_S1_S_).sem = dsem 1 j := by
  subst h; revert j; decide
theorem sem9_of {off : Fin 1 → ℕ} {inb} (j : Fin 4) (h : off = ![j.val]) :
    ((cc0_scratch5.slice (Rect.unit (s := S4) off S1.size inb)).squeeze S_ squeezes_S1_S_).sem = dsem 2 j := by
  subst h; revert j; decide
theorem sem10_of {off : Fin 1 → ℕ} {inb} (j : Fin 4) (h : off = ![j.val]) :
    ((cc0_scratch6.slice (Rect.unit (s := S4) off S1.size inb)).squeeze S_ squeezes_S1_S_).sem = dsem 3 j := by
  subst h; revert j; decide
theorem sem11_of {off : Fin 1 → ℕ} {inb} (j : Fin 4) (h : off = ![j.val]) :
    ((cc0_scratch7.slice (Rect.unit (s := S4) off S1.size inb)).squeeze S_ squeezes_S1_S_).sem = dsem 4 j := by
  subst h; revert j; decide
theorem sem12_of {off : Fin 1 → ℕ} {inb} (j : Fin 4) (h : off = ![j.val]) :
    ((cc0_scratch8.slice (Rect.unit (s := S4) off S1.size inb)).squeeze S_ squeezes_S1_S_).sem = dsem 5 j := by
  subst h; revert j; decide

/-! ## Parts -/

/-- The slots at these offsets. -/
theorem slA_of {off : Fin 3 → ℕ} {inb} (s : Fin 4) (h : off = ![s.val, 0, 0]) :
    MA.slice (Rect.unit (s := S4x64x256) off S1x64x256.size inb) (fun _ => rfl) = slA s := by subst h; rfl
theorem slB_of {off : Fin 3 → ℕ} {inb} (s : Fin 4) (h : off = ![s.val, 0, 0]) :
    MB.slice (Rect.unit (s := S4x64x256) off S1x64x256.size inb) (fun _ => rfl) = slB s := by subst h; rfl
theorem slP_of {off : Fin 3 → ℕ} {inb} (i : Fin 4) (h : off = ![i.val - 1, 0, 0]) :
    MP.slice (Rect.unit (s := S3x64x256) off S1x64x256.size inb) (fun _ => rfl) = slP i := by subst h; rfl
theorem slO_of {off : Fin 2 → ℕ} {inb} (s : Fin 4) (h : off = ![64 * s.val, 0]) :
    MO.slice (Rect.unit (s := S256x256) off S64x256.size inb) (fun _ => rfl) = slO s := by subst h; rfl

/-! ## Loads and stores -/

variable (K : Dev nD × JIdx → ℕ)

/-- Load a block of activations, -/
theorem wp_ldX (c : Dev nD) {α : Type} {Q : α → sProp 𝕄} {off : Fin 2 → ℕ} {inb} {hl} (t : Fin 4) (h : off = ![64 * t.val, 0])
    {k : (S64x128.Idx → Elt F .bf16) → Prog (TpuEff nD τ sig (Elt F) Λ₀ .tc) α} :
    at_ c MX fullShare (xstg m ρ c) ⊢ iprop((at_ c MX fullShare (xstg m ρ c) -∗ Run c (k (xb m ρ c t)) Q)
      -∗ Run c (.op (.load MX (Rect.unit (s := S256x128) off S64x128.size inb).toLoadRect hl) k) Q) := by
  subst h; exact wp_ld c MX (Rect.unit (s := S256x128) ![64 * t.val, 0] S64x128.size inb) fullShare (xstg m ρ c)
/-- of numbers, -/
theorem wp_ldR (c : Dev nD) {α : Type} {Q : α → sProp 𝕄} {off : Fin 2 → ℕ} {inb} {hl} (t : Fin 4) (h : off = ![64 * t.val, 0])
    {k : (S64x1.Idx → Elt F .i32) → Prog (TpuEff nD τ sig (Elt F) Λ₀ .tc) α} :
    at_ c MR fullShare (rstg m ρ c) ⊢ iprop((at_ c MR fullShare (rstg m ρ c) -∗ Run c (k (rb m ρ c t)) Q)
      -∗ Run c (.op (.load MR (Rect.unit (s := S256x1) off S64x1.size inb).toLoadRect hl) k) Q) := by
  subst h; exact wp_ld c MR (Rect.unit (s := S256x1) ![64 * t.val, 0] S64x1.size inb) fullShare (rstg m ρ c)
/-- a slot of the send buffer, -/
theorem wp_ldP (c : Dev nD) {α : Type} {Q : α → sProp 𝕄} {off : Fin 3 → ℕ} {inb} {hl} (i : Fin 4) (h : off = ![i.val - 1, 0, 0]) (X : S1x64x256.Idx → Elt F .bf16)
    {k : (S1x64x256.Idx → Elt F .bf16) → Prog (TpuEff nD τ sig (Elt F) Λ₀ .tc) α} :
    at_ c (slP i) fullShare X ⊢ iprop((at_ c (slP i) fullShare X -∗ Run c (k X) Q)
      -∗ Run c (.op (.load MP (Rect.unit (s := S3x64x256) off S1x64x256.size inb).toLoadRect hl) k) Q) := by
  subst h; exact wp_ld_slot c MP (Rect.unit (s := S3x64x256) ![i.val - 1, 0, 0] S1x64x256.size inb) (fun _ => rfl) fullShare X
/-- a slot of the first receive buffer, -/
theorem wp_ldA (c : Dev nD) {α : Type} {Q : α → sProp 𝕄} {off : Fin 3 → ℕ} {inb} {hl} (s : Fin 4) (h : off = ![s.val, 0, 0]) (X : S1x64x256.Idx → Elt F .bf16)
    {k : (S1x64x256.Idx → Elt F .bf16) → Prog (TpuEff nD τ sig (Elt F) Λ₀ .tc) α} :
    at_ c (slA s) fullShare X ⊢ iprop((at_ c (slA s) fullShare X -∗ Run c (k X) Q)
      -∗ Run c (.op (.load MA (Rect.unit (s := S4x64x256) off S1x64x256.size inb).toLoadRect hl) k) Q) := by
  subst h; exact wp_ld_slot c MA (Rect.unit (s := S4x64x256) ![s.val, 0, 0] S1x64x256.size inb) (fun _ => rfl) fullShare X
/-- of the second, -/
theorem wp_ldB (c : Dev nD) {α : Type} {Q : α → sProp 𝕄} {off : Fin 3 → ℕ} {inb} {hl} (s : Fin 4) (h : off = ![s.val, 0, 0]) (X : S1x64x256.Idx → Elt F .bf16)
    {k : (S1x64x256.Idx → Elt F .bf16) → Prog (TpuEff nD τ sig (Elt F) Λ₀ .tc) α} :
    at_ c (slB s) fullShare X ⊢ iprop((at_ c (slB s) fullShare X -∗ Run c (k X) Q)
      -∗ Run c (.op (.load MB (Rect.unit (s := S4x64x256) off S1x64x256.size inb).toLoadRect hl) k) Q) := by
  subst h; exact wp_ld_slot c MB (Rect.unit (s := S4x64x256) ![s.val, 0, 0] S1x64x256.size inb) (fun _ => rfl) fullShare X
/-- a block of the output. -/
theorem wp_ldO (c : Dev nD) {α : Type} {Q : α → sProp 𝕄} {off : Fin 2 → ℕ} {inb} {hl} (s : Fin 4) (h : off = ![64 * s.val, 0]) (X : S64x256.Idx → Elt F .f32)
    {k : (S64x256.Idx → Elt F .f32) → Prog (TpuEff nD τ sig (Elt F) Λ₀ .tc) α} :
    at_ c (slO s) fullShare X ⊢ iprop((at_ c (slO s) fullShare X -∗ Run c (k X) Q)
      -∗ Run c (.op (.load MO (Rect.unit (s := S256x256) off S64x256.size inb).toLoadRect hl) k) Q) := by
  subst h; exact wp_ld_slot c MO (Rect.unit (s := S256x256) ![64 * s.val, 0] S64x256.size inb) (fun _ => rfl) fullShare X

/-- Store into the send buffer, -/
theorem wp_stP (c : Dev nD) {α : Type} {Q : α → sProp 𝕄} {k : PUnit → Prog (TpuEff nD τ sig (Elt F) Λ₀ .tc) α} {off : Fin 3 → ℕ} {inb} {hx hm} (i : Fin 4) (h : off = ![i.val - 1, 0, 0]) (X w w' : S1x64x256.Idx → Elt F .bf16) (hw : w = w') :
    at_ c (slP i) fullShare X ⊢ iprop((at_ c (slP i) fullShare w' -∗ Run c (k ⟨⟩) Q)
      -∗ Run c (.op (.store MP (Rect.unit (s := S3x64x256) off S1x64x256.size inb) w Finset.univ hx hm) k) Q) := by
  subst h hw; exact wp_st_slot c MP (Rect.unit (s := S3x64x256) ![i.val - 1, 0, 0] S1x64x256.size inb) (fun _ => rfl) X w
/-- into the second receive buffer, -/
theorem wp_stB (c : Dev nD) {α : Type} {Q : α → sProp 𝕄} {k : PUnit → Prog (TpuEff nD τ sig (Elt F) Λ₀ .tc) α} {off : Fin 3 → ℕ} {inb} {hx hm} (s : Fin 4) (h : off = ![s.val, 0, 0]) (X w w' : S1x64x256.Idx → Elt F .bf16) (hw : w = w') :
    at_ c (slB s) fullShare X ⊢ iprop((at_ c (slB s) fullShare w' -∗ Run c (k ⟨⟩) Q)
      -∗ Run c (.op (.store MB (Rect.unit (s := S4x64x256) off S1x64x256.size inb) w Finset.univ hx hm) k) Q) := by
  subst h hw; exact wp_st_slot c MB (Rect.unit (s := S4x64x256) ![s.val, 0, 0] S1x64x256.size inb) (fun _ => rfl) X w
/-- into the output. -/
theorem wp_stO (c : Dev nD) {α : Type} {Q : α → sProp 𝕄} {k : PUnit → Prog (TpuEff nD τ sig (Elt F) Λ₀ .tc) α} {off : Fin 2 → ℕ} {inb} {hx hm} (s : Fin 4) (h : off = ![64 * s.val, 0]) (X w w' : S64x256.Idx → Elt F .f32) (hw : w = w') :
    at_ c (slO s) fullShare X ⊢ iprop((at_ c (slO s) fullShare w' -∗ Run c (k ⟨⟩) Q)
      -∗ Run c (.op (.store MO (Rect.unit (s := S256x256) off S64x256.size inb) w Finset.univ hx hm) k) Q) := by
  subst h hw; exact wp_st_slot c MO (Rect.unit (s := S256x256) ![64 * s.val, 0] S64x256.size inb) (fun _ => rfl) X w

/-! ## Signals -/

/-- A unit on the barrier of the peer `d` places on, with the parts of its own it will write. -/
theorem wp_sigBar (c : Dev nD) {α : Type} {Q : α → sProp 𝕄} {k : PUnit → Prog (TpuEff nD τ sig (Elt F) Λ₀ .tc) α} {n : Dev nD} (d i : Fin 4) (hi : i ≠ 0) (hd : d = -i) (hn : n = pl c d) (l : List (Fin 8 × Fin 4)) :
    iprop(recs m ρ K ∗ ow c ((0, i) :: l) ∗ tok (F := F) c 0 i ∗ some_ (F := F) c (slA (pc c + d)) ∗ some_ (F := F) c (slO (pc c + d)))
      ⊢ iprop((ow c l -∗ Run c (k ⟨⟩) Q) -∗ Run c (.op (.semSignal (n : Thread nD τ) barS (1#32).toInt) k) Q) := by
  subst hd hn
  iintro ⟨#HR, HO, Ht, HA, HB⟩ Hk
  iapply (wp_sig m ρ K c (pl c (-i)) 0 i hi rfl l (pay_pl 0 i c (.inl rfl)).symm barS rfl) $$ [HO Ht HA HB]
  · isplitr; · iexact HR
    isplitl [HO]; · iexact HO
    isplitl [Ht]; · iexact Ht
    rw [payload_bar]; unfold barPay
    rw [pl_neg_pl, pc_pl]
    isplitl [HA]; · iexact HA
    iexact HB
  iexact Hk
/-- A unit on the column semaphore of the peer `d` planes on. -/
theorem wp_sigCol (c : Dev nD) {α : Type} {Q : α → sProp 𝕄} {k : PUnit → Prog (TpuEff nD τ sig (Elt F) Λ₀ .tc) α} {n : Dev nD} (d i : Fin 4) (hi : i ≠ 0) (hd : d = -i) (hn : n = co c d) (l : List (Fin 8 × Fin 4)) :
    iprop(recs m ρ K ∗ ow c ((1, i) :: l) ∗ tok (F := F) c 1 i ∗ some_ (F := F) c (slB (zc c + d)))
      ⊢ iprop((ow c l -∗ Run c (k ⟨⟩) Q) -∗ Run c (.op (.semSignal (n : Thread nD τ) colS (1#32).toInt) k) Q) := by
  subst hd hn
  iintro ⟨#HR, HO, Ht, HA⟩ Hk
  iapply (wp_sig m ρ K c (co c (-i)) 1 i hi rfl l (pay_co 1 i c (.inl rfl)).symm colS rfl) $$ [HO Ht HA]
  · isplitr; · iexact HR
    isplitl [HO]; · iexact HO
    isplitl [Ht]; · iexact Ht
    rw [payload_col]; unfold colPay
    rw [co_neg_co, zc_co]
    iexact HA
  iexact Hk

/-! ## Transfers -/

/-- Send in the first exchange, -/
theorem wp_sndA (c : Dev nD) {α : Type} {Q : α → sProp 𝕄} {k : PUnit → Prog (TpuEff nD τ sig (Elt F) Λ₀ .tc) α} {n : Dev nD} (d i : Fin 4) (hi : i ≠ 0) (hd : d = -i) (hn : n = pl c d) (l : List (Fin 8 × Fin 4))
    {S D : Memref sig .tc .vmem S1x64x256 .bf16} (hS : S = slP d) (hD : D = slA (pc c)) {qS qR : DmaSem sig} (hqS : qS = dsem 0 d) (hqR : qR = dsem 1 (pc c))
    {hsc hsrc hdst hsem} :
    iprop(recs m ρ K ∗ at_ c (slP d) fullShare (SA m ρ c (pc c + d)) ∗ some_ (F := F) (pl c d) (slA (pc c)) ∗ ow c ((3, i) :: l) ∗ tok (F := F) c 2 d ∗ tok (F := F) c 3 i)
      ⊢ iprop(((crd (F := F) c 2 d ∗ ow c l) -∗ Run c (k ⟨⟩) Q)
          -∗ Run c (.op (.enqueueDma (S.squeeze S64x256 squeezes_S1x64x256_S64x256)
              (.remote (Dev.tc n : Thread nD τ) (D.squeeze S64x256 squeezes_S1x64x256_S64x256) (.dma qS) hsc) (.dma qR) hsrc hdst hsem) k) Q) := by
  subst hn hS hD hqS hqR
  have hd0 : d ≠ 0 := by rw [hd]; exact f4_neg_ne i hi
  have e0 : pc (pl c d) + i = pc c := by rw [pc_pl, hd]; exact f4_add_neg_add _ _
  have e1 : pl (pl c d) i = c := by rw [hd]; exact pl_neg_pl _ _
  exact wp_snd_sq m ρ K c (pl c d) 2 3 d i (by decide) (by decide) hd0 hi rfl l (by rw [pay_pl 3 i c (.inr (.inl rfl)), hd]) (pay_self 2 d c (.inl rfl))
    (slP d) (slA (pc c)) squeezes_S1x64x256_S64x256 (by show _ = SemLoc.dma (dsem 0 (0 + d)); rw [f4_zero_add])
    (by show _ = SemLoc.dma (dsem 1 (pc (pl c d) + i)); rw [e0]) rfl fullShare (SA m ρ c (pc c + d)) (BI.Entails.refl _)
    (by show _ ⊢ at_ (pl c d) (slA (pc (pl c d) + i)) fullShare (SA m ρ (pl (pl c d) i) (pc (pl c d)))
        rw [e0, e1, pc_pl])

/-- the second, -/
theorem wp_sndB (c : Dev nD) {α : Type} {Q : α → sProp 𝕄} {k : PUnit → Prog (TpuEff nD τ sig (Elt F) Λ₀ .tc) α} {n : Dev nD} (d i : Fin 4) (hi : i ≠ 0) (hd : d = -i) (hn : n = co c d) (l : List (Fin 8 × Fin 4))
    {S D : Memref sig .tc .vmem S1x64x256 .bf16} (hS : S = slB (zc c)) (hD : D = slB (zc c)) {qS qR : DmaSem sig} (hqS : qS = dsem 2 d) (hqR : qR = dsem 3 (zc c))
    {hsc hsrc hdst hsem} :
    iprop(recs m ρ K ∗ at_ c (slB (zc c)) (sh d) (SB m ρ c) ∗ some_ (F := F) (co c d) (slB (zc c)) ∗ ow c ((5, i) :: l) ∗ tok (F := F) c 4 d ∗ tok (F := F) c 5 i)
      ⊢ iprop(((crd (F := F) c 4 d ∗ ow c l) -∗ Run c (k ⟨⟩) Q)
          -∗ Run c (.op (.enqueueDma (S.squeeze S64x256 squeezes_S1x64x256_S64x256)
              (.remote (Dev.tc n : Thread nD τ) (D.squeeze S64x256 squeezes_S1x64x256_S64x256) (.dma qS) hsc) (.dma qR) hsrc hdst hsem) k) Q) := by
  subst hn hS hD hqS hqR
  have hd0 : d ≠ 0 := by rw [hd]; exact f4_neg_ne i hi
  have e0 : zc (co c d) + i = zc c := by rw [zc_co, hd]; exact f4_add_neg_add _ _
  have e1 : co (co c d) i = c := by rw [hd]; exact co_neg_co _ _
  exact wp_snd_sq m ρ K c (co c d) 4 5 d i (by decide) (by decide) hd0 hi rfl l (by rw [pay_co 5 i c (.inr rfl), hd]) (pay_self 4 d c (.inr (.inl rfl)))
    (slB (zc c)) (slB (zc c)) squeezes_S1x64x256_S64x256 (by show _ = SemLoc.dma (dsem 2 (0 + d)); rw [f4_zero_add])
    (by show _ = SemLoc.dma (dsem 3 (zc (co c d) + i)); rw [e0]) rfl (sh d) (SB m ρ c) (BI.Entails.refl _)
    (by show _ ⊢ at_ (co c d) (slB (zc (co c d) + i)) fullShare (SB m ρ (co (co c d) i))
        rw [e0, e1])

/-- the third. -/
theorem wp_sndC (c : Dev nD) {α : Type} {Q : α → sProp 𝕄} {k : PUnit → Prog (TpuEff nD τ sig (Elt F) Λ₀ .tc) α} {n : Dev nD} (d i : Fin 4) (hi : i ≠ 0) (hd : d = -i) (hn : n = pl c d) (l : List (Fin 8 × Fin 4))
    {S D : Memref sig .tc .vmem S64x256 .f32} (hS : S = slO (pc c)) (hD : D = slO (pc c)) {qS qR : DmaSem sig} (hqS : qS = dsem 4 d) (hqR : qR = dsem 5 (pc c))
    {hsc hsrc hdst hsem} :
    iprop(recs m ρ K ∗ at_ c (slO (pc c)) (sh d) (TS m ρ c) ∗ some_ (F := F) (pl c d) (slO (pc c)) ∗ ow c ((7, i) :: l) ∗ tok (F := F) c 6 d ∗ tok (F := F) c 7 i)
      ⊢ iprop(((crd (F := F) c 6 d ∗ ow c l) -∗ Run c (k ⟨⟩) Q)
          -∗ Run c (.op (.enqueueDma S (.remote (Dev.tc n : Thread nD τ) D (.dma qS) hsc) (.dma qR) hsrc hdst hsem) k) Q) := by
  subst hn hS hD hqS hqR
  have hd0 : d ≠ 0 := by rw [hd]; exact f4_neg_ne i hi
  have e0 : pc (pl c d) + i = pc c := by rw [pc_pl, hd]; exact f4_add_neg_add _ _
  have e1 : pl (pl c d) i = c := by rw [hd]; exact pl_neg_pl _ _
  exact wp_snd_id m ρ K c (pl c d) 6 7 d i (by decide) (by decide) hd0 hi rfl l (by rw [pay_pl 7 i c (.inr (.inr rfl)), hd]) (pay_self 6 d c (.inr (.inr rfl)))
    (slO (pc c)) (slO (pc c)) (by show _ = SemLoc.dma (dsem 4 (0 + d)); rw [f4_zero_add])
    (by show _ = SemLoc.dma (dsem 5 (pc (pl c d) + i)); rw [e0]) rfl (sh d) (TS m ρ c) (BI.Entails.refl _)
    (by show _ ⊢ at_ (pl c d) (slO (pc (pl c d) + i)) fullShare (TS m ρ (pl (pl c d) i))
        rw [e0, e1])

/-! ## Waits -/

/-- Receive in the first exchange, -/
theorem wp_wtA (c : Dev nD) {α : Type} {Q : α → sProp 𝕄} {k : PUnit → Prog (TpuEff nD τ sig (Elt F) Λ₀ .tc) α} (i : Fin 4) (hi : i ≠ 0) (l : List (Fin 8 × Fin 4)) (hl : ∀ x ∈ l, lvF 3 < lvF x.1) {q : DmaSem sig} (hq : q = dsem 1 (pc c + i))
    {off : Fin 3 → ℕ} {inb : ∀ i, off i + S1x64x256.size i ≤ S4x64x256.size i} {src : Memref sig .tc .vmem S64x256 .bf16} {hsrc hdst} :
    iprop(recs m ρ K ∗ levAts L lv ∗ crd (F := F) c 3 i ∗ ow c l ∗ pos (F := F) c 3 i)
      ⊢ iprop(((ow c l ∗ pos1 (F := F) c 3 i ∗ at_ c (slA (pc c + i)) fullShare (SA m ρ (pl c i) (pc c))) -∗ Run c (k ⟨⟩) Q)
        -∗ Run c (.op (.waitDma2 q src ((MA.slice (Rect.unit (s := S4x64x256) off S1x64x256.size inb) (fun _ => rfl)).squeeze S64x256 squeezes_S1x64x256_S64x256) hsrc hdst) k) Q) := by
  subst hq
  have hN : ((MA.slice (Rect.unit (s := S4x64x256) off S1x64x256.size inb) (fun _ => rfl)).squeeze S64x256 squeezes_S1x64x256_S64x256).view.dmaCredit = NB := rfl
  exact wp_wt m ρ K c 3 i (by decide) hi l hl _ rfl hN
/-- the second, -/
theorem wp_wtB (c : Dev nD) {α : Type} {Q : α → sProp 𝕄} {k : PUnit → Prog (TpuEff nD τ sig (Elt F) Λ₀ .tc) α} (i : Fin 4) (hi : i ≠ 0) (l : List (Fin 8 × Fin 4)) (hl : ∀ x ∈ l, lvF 5 < lvF x.1) {q : DmaSem sig} (hq : q = dsem 3 (zc c + i))
    {off : Fin 3 → ℕ} {inb : ∀ i, off i + S1x64x256.size i ≤ S4x64x256.size i} {src : Memref sig .tc .vmem S64x256 .bf16} {hsrc hdst} :
    iprop(recs m ρ K ∗ levAts L lv ∗ crd (F := F) c 5 i ∗ ow c l ∗ pos (F := F) c 5 i)
      ⊢ iprop(((ow c l ∗ pos1 (F := F) c 5 i ∗ at_ c (slB (zc c + i)) fullShare (SB m ρ (co c i))) -∗ Run c (k ⟨⟩) Q)
        -∗ Run c (.op (.waitDma2 q src ((MB.slice (Rect.unit (s := S4x64x256) off S1x64x256.size inb) (fun _ => rfl)).squeeze S64x256 squeezes_S1x64x256_S64x256) hsrc hdst) k) Q) := by
  subst hq
  have hN : ((MB.slice (Rect.unit (s := S4x64x256) off S1x64x256.size inb) (fun _ => rfl)).squeeze S64x256 squeezes_S1x64x256_S64x256).view.dmaCredit = NB := rfl
  exact wp_wt m ρ K c 5 i (by decide) hi l hl _ rfl hN
/-- the third. -/
theorem wp_wtC (c : Dev nD) {α : Type} {Q : α → sProp 𝕄} {k : PUnit → Prog (TpuEff nD τ sig (Elt F) Λ₀ .tc) α} (i : Fin 4) (hi : i ≠ 0) (l : List (Fin 8 × Fin 4)) (hl : ∀ x ∈ l, lvF 7 < lvF x.1) {q : DmaSem sig} (hq : q = dsem 5 (pc c + i))
    {off : Fin 2 → ℕ} {inb : ∀ i, off i + S64x256.size i ≤ S256x256.size i} {src : Memref sig .tc .vmem S64x256 .f32} {hsrc hdst} :
    iprop(recs m ρ K ∗ levAts L lv ∗ crd (F := F) c 7 i ∗ ow c l ∗ pos (F := F) c 7 i)
      ⊢ iprop(((ow c l ∗ pos1 (F := F) c 7 i ∗ at_ c (slO (pc c + i)) fullShare (TS m ρ (pl c i))) -∗ Run c (k ⟨⟩) Q)
        -∗ Run c (.op (.waitDma2 q src (MO.slice (Rect.unit (s := S256x256) off S64x256.size inb) (fun _ => rfl)) hsrc hdst) k) Q) := by
  subst hq
  have hN : (MO.slice (Rect.unit (s := S256x256) off S64x256.size inb) (fun _ => rfl)).view.dmaCredit = NF := rfl
  exact wp_wt m ρ K c 7 i (by decide) hi l hl _ rfl hN
/-- The wait for a transfer of the device's own to have been read. -/
theorem wp_wtSA (c : Dev nD) {α : Type} {Q : α → sProp 𝕄} {k : PUnit → Prog (TpuEff nD τ sig (Elt F) Λ₀ .tc) α} (i : Fin 4) (hi : i ≠ 0) {q : DmaSem sig} (hq : q = dsem (krow 2) i)
    {off : Fin 3 → ℕ} {inb : ∀ i, off i + S1x64x256.size i ≤ S3x64x256.size i} {src : Memref sig .tc .vmem S64x256 .bf16} {hsrc hdst} :
    iprop(recs m ρ K ∗ levAts L lv ∗ crd (F := F) c 2 i ∗ ow c [] ∗ pos (F := F) c 2 i)
      ⊢ iprop(((ow c [] ∗ pos1 (F := F) c 2 i ∗ xPay m ρ c (krow 2) i) -∗ Run c (k ⟨⟩) Q)
        -∗ Run c (.op (.waitDma2 q src ((MP.slice (Rect.unit (s := S3x64x256) off S1x64x256.size inb) (fun _ => rfl)).squeeze S64x256 squeezes_S1x64x256_S64x256) hsrc hdst) k) Q) := by
  subst hq
  have hN : ((MP.slice (Rect.unit (s := S3x64x256) off S1x64x256.size inb) (fun _ => rfl)).squeeze S64x256 squeezes_S1x64x256_S64x256).view.dmaCredit = NB := rfl
  exact wp_wt m ρ K c 2 i (by decide) hi [] (fun _ h => absurd h List.not_mem_nil) _
    (congrArg (fun j => SemLoc.dma (dsem _ j)) (f4_zero_add i).symm) hN

/-- The wait for a transfer of the device's own to have been read. -/
theorem wp_wtSB (c : Dev nD) {α : Type} {Q : α → sProp 𝕄} {k : PUnit → Prog (TpuEff nD τ sig (Elt F) Λ₀ .tc) α} (i : Fin 4) (hi : i ≠ 0) {q : DmaSem sig} (hq : q = dsem (krow 4) i)
    {off : Fin 3 → ℕ} {inb : ∀ i, off i + S1x64x256.size i ≤ S4x64x256.size i} {src : Memref sig .tc .vmem S64x256 .bf16} {hsrc hdst} :
    iprop(recs m ρ K ∗ levAts L lv ∗ crd (F := F) c 4 i ∗ ow c [] ∗ pos (F := F) c 4 i)
      ⊢ iprop(((ow c [] ∗ pos1 (F := F) c 4 i ∗ xPay m ρ c (krow 4) i) -∗ Run c (k ⟨⟩) Q)
        -∗ Run c (.op (.waitDma2 q src ((MB.slice (Rect.unit (s := S4x64x256) off S1x64x256.size inb) (fun _ => rfl)).squeeze S64x256 squeezes_S1x64x256_S64x256) hsrc hdst) k) Q) := by
  subst hq
  have hN : ((MB.slice (Rect.unit (s := S4x64x256) off S1x64x256.size inb) (fun _ => rfl)).squeeze S64x256 squeezes_S1x64x256_S64x256).view.dmaCredit = NB := rfl
  exact wp_wt m ρ K c 4 i (by decide) hi [] (fun _ h => absurd h List.not_mem_nil) _
    (congrArg (fun j => SemLoc.dma (dsem _ j)) (f4_zero_add i).symm) hN

/-- The wait for a transfer of the device's own to have been read. -/
theorem wp_wtSC (c : Dev nD) {α : Type} {Q : α → sProp 𝕄} {k : PUnit → Prog (TpuEff nD τ sig (Elt F) Λ₀ .tc) α} (i : Fin 4) (hi : i ≠ 0) {q : DmaSem sig} (hq : q = dsem (krow 6) i)
    {off : Fin 2 → ℕ} {inb : ∀ i, off i + S64x256.size i ≤ S256x256.size i} {src : Memref sig .tc .vmem S64x256 .f32} {hsrc hdst} :
    iprop(recs m ρ K ∗ levAts L lv ∗ crd (F := F) c 6 i ∗ ow c [] ∗ pos (F := F) c 6 i)
      ⊢ iprop(((ow c [] ∗ pos1 (F := F) c 6 i ∗ xPay m ρ c (krow 6) i) -∗ Run c (k ⟨⟩) Q)
        -∗ Run c (.op (.waitDma2 q src (MO.slice (Rect.unit (s := S256x256) off S64x256.size inb) (fun _ => rfl)) hsrc hdst) k) Q) := by
  subst hq
  have hN : (MO.slice (Rect.unit (s := S256x256) off S64x256.size inb) (fun _ => rfl)).view.dmaCredit = NF := rfl
  exact wp_wt m ρ K c 6 i (by decide) hi [] (fun _ h => absurd h List.not_mem_nil) _
    (congrArg (fun j => SemLoc.dma (dsem _ j)) (f4_zero_add i).symm) hN

/-- The names the values go by. -/
theorem wd_eq (c : Dev nD) : Scalar.remsi (Scalar.divsi (Dev.word c) 1#32) 16#32 = wd c := rfl
/-- The experts side by side are what the definition says. -/
theorem wE_eq (c : Dev nD) : k0_pay1
    (ME.view.readAt (Elt F) (Rect.unit (s := S2x128x256) ![0, 0, 0] S1x128x256.size inb_S2x128x256_S1x128x256_0_0_0).toLoadRect (estg m ρ c))
    (ME.view.readAt (Elt F) (Rect.unit (s := S2x128x256) ![1, 0, 0] S1x128x256.size inb_S2x128x256_S1x128x256_1_0_0).toLoadRect (estg m ρ c)) = wE m ρ c := rfl
/-- So is a block's product, -/
theorem PB_eq (c : Dev nD) (t : Fin 4) : k0_pay9 (wd c) (wE m ρ c) (xb m ρ c t) (rb m ρ c t) = PB m ρ c t := rfl
/-- and a plane's sum. -/
theorem QS_eq (c : Dev nD) : k0_pay12 (k0_pay10 (PB m ρ c (pc c)) (SA m ρ (pl c 1) (pc c)) (SA m ρ (pl c 3) (pc c))) (k0_pay11 (SA m ρ (pl c 2) (pc c))) = QS m ρ c := rfl
/-- What the wrap-up of a program asks. -/
theorem run_ret {α : Type} {Q : α → sProp 𝕄} (c : Dev nD) (a : α) : Q a ⊢ Run c (.ret a) Q := by
  unfold Run; rw [wp_ret]; iintro H; imodintro; iexact H
/-- One program after another. -/
theorem run_bind {α β : Type} {Q : β → sProp 𝕄} (c : Dev nD) (p : Prog (TpuEff nD τ sig (Elt F) Λ₀ .tc) α) (k : α → Prog (TpuEff nD τ sig (Elt F) Λ₀ .tc) β) :
    Run c p (fun a => Run c (k a) Q) ⊢ Run c (p >>= k) Q := by
  unfold Run; rw [wp_bind]
/-- A load from the experts. -/
theorem wp_ldE (c : Dev nD) {α : Type} {Q : α → sProp 𝕄} {off : Fin 3 → ℕ} {inb} {hl}
    {k : (S1x128x256.Idx → Elt F .bf16) → Prog (TpuEff nD τ sig (Elt F) Λ₀ .tc) α} :
    at_ c ME fullShare (estg m ρ c) ⊢ iprop((at_ c ME fullShare (estg m ρ c)
        -∗ Run c (k (ME.view.readAt (Elt F) (Rect.unit (s := S2x128x256) off S1x128x256.size inb).toLoadRect (estg m ρ c))) Q)
      -∗ Run c (.op (.load ME (Rect.unit (s := S2x128x256) off S1x128x256.size inb).toLoadRect hl) k) Q) :=
  wp_ld c ME (Rect.unit (s := S2x128x256) off S1x128x256.size inb) fullShare (estg m ρ c)

/-- The wait for the plane's peers. -/
theorem wp_wtBar (c : Dev nD) {α : Type} {Q : α → sProp 𝕄} {k : PUnit → Prog (TpuEff nD τ sig (Elt F) Λ₀ .tc) α} (l : List (Fin 8 × Fin 4)) (hl : ∀ x ∈ l, lvF 0 < lvF x.1) :
    iprop(recs m ρ K ∗ levAts L lv ∗ crd3 (F := F) c 0 ∗ ow c l ∗ pos (F := F) c 0 0)
      ⊢ iprop(((ow c l ∗ pos1 (F := F) c 0 0 ∗ some_ (F := F) (pl c 1) (slA (pc c)) ∗ some_ (F := F) (pl c 1) (slO (pc c))
            ∗ some_ (F := F) (pl c 2) (slA (pc c)) ∗ some_ (F := F) (pl c 2) (slO (pc c)) ∗ some_ (F := F) (pl c 3) (slA (pc c)) ∗ some_ (F := F) (pl c 3) (slO (pc c)))
          -∗ Run c (k ⟨⟩) Q) -∗ Run c (.op (.semWait barS (3#32).toInt) k) Q) := by
  iintro H Hk
  iapply (wp_wt3 m ρ K c 0 (by decide) l hl barS rfl) $$ H
  rw [payload_bar, payload_bar, payload_bar]; unfold barPay
  iintro ⟨HO, HP, ⟨A1, O1⟩, ⟨A2, O2⟩, A3, O3⟩
  iapply Hk
  isplitl [HO]; · iexact HO
  isplitl [HP]; · iexact HP
  isplitl [A1]; · iexact A1
  isplitl [O1]; · iexact O1
  isplitl [A2]; · iexact A2
  isplitl [O2]; · iexact O2
  isplitl [A3]; · iexact A3
  iexact O3
/-- The wait for the column's peers. -/
theorem wp_wtCol (c : Dev nD) {α : Type} {Q : α → sProp 𝕄} {k : PUnit → Prog (TpuEff nD τ sig (Elt F) Λ₀ .tc) α} (l : List (Fin 8 × Fin 4)) (hl : ∀ x ∈ l, lvF 1 < lvF x.1) :
    iprop(recs m ρ K ∗ levAts L lv ∗ crd3 (F := F) c 1 ∗ ow c l ∗ pos (F := F) c 1 0)
      ⊢ iprop(((ow c l ∗ pos1 (F := F) c 1 0 ∗ some_ (F := F) (co c 1) (slB (zc c)) ∗ some_ (F := F) (co c 2) (slB (zc c)) ∗ some_ (F := F) (co c 3) (slB (zc c)))
          -∗ Run c (k ⟨⟩) Q) -∗ Run c (.op (.semWait colS (3#32).toInt) k) Q) := by
  iintro H Hk
  iapply (wp_wt3 m ρ K c 1 (by decide) l hl colS rfl) $$ H
  rw [payload_col, payload_col, payload_col]; unfold colPay
  iexact Hk

end Cert.MoE

end
-- ==== Proof.PartsA.lean ====
/-
# The kernel's parts, first half

Each printed part of the body run from exactly what it uses to what it leaves: the signals, the experts' products for the
plane's blocks, and the transfers of the plane exchange.
-/
module

public import proofs.«01_k».proof.Proof.Steps

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)
variable (K : Dev nD × JIdx → ℕ)

/-- The three barrier units. -/
theorem part1 (c : Dev nD) (Kt : (Σ' (d0 : Dev nD) (v2 : BitVec 32) (v3 : BitVec 32) (v4 : BitVec 32) (v5 : Sems sig S_), BitVec 32) → sProp 𝕄) :
    iprop(recs m ρ K ∗ ow c L0 ∗ tok (F := F) c 0 3 ∗ tok (F := F) c 0 2 ∗ tok (F := F) c 0 1 ∗ some_ (F := F) c (slA (pc c + 1)) ∗ some_ (F := F) c (slA (pc c + 2)) ∗ some_ (F := F) c (slA (pc c + 3)) ∗ some_ (F := F) c (slO (pc c + 1)) ∗ some_ (F := F) c (slO (pc c + 2)) ∗ some_ (F := F) c (slO (pc c + 3))
        ∗ (∀ (v3 v4 v28 : BitVec 32), (ow c L1) -∗ Kt ⟨c, wd c, v3, v4, SemArray.scalar (sig.barrier 0 rfl), v28⟩))
      ⊢ Run c (k0_part1 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9) Kt := by
  simp only [k0_part1_eq_skeleton]; unfold k0_part1_skel
  simp only [semSignalWord, semWaitWord, Prog.lift, Prog.bind_op, Prog.bind_ret, Prog.pure_eq_ret, Prog.bind_assoc, wp_deviceId]
  iintro ⟨#HR, HO, T3, T2, T1, A1, A2, A3, O1, O2, O3, HK⟩
  iapply (wp_sigBar m ρ K c 1 3 (by decide) (by decide) (dev1_eq c) ((0, 2) :: (0, 1) :: L1)) $$ [HO T3 A1 O1]
  · isplitr; · iexact HR
    isplitl [HO]; · iexact HO
    isplitl [T3]; · iexact T3
    isplitl [A1]; · iexact A1
    iexact O1
  iintro HO
  iapply (wp_sigBar m ρ K c 2 2 (by decide) (by decide) (dev2_eq c) ((0, 1) :: L1)) $$ [HO T2 A2 O2]
  · isplitr; · iexact HR
    isplitl [HO]; · iexact HO
    isplitl [T2]; · iexact T2
    isplitl [A2]; · iexact A2
    iexact O2
  iintro HO
  iapply (wp_sigBar m ρ K c 3 1 (by decide) (by decide) (dev3_eq c) L1) $$ [HO T1 A3 O3]
  · isplitr; · iexact HR
    isplitl [HO]; · iexact HO
    isplitl [T1]; · iexact T1
    isplitl [A3]; · iexact A3
    iexact O3
  iintro HO
  rw [wd_eq]
  iapply (run_ret c _)
  iapply HK
  iexact HO

/-- The three column units, the loads of the experts, the wait for the plane's peers, and the loads for the first block. -/
theorem part2 (c : Dev nD) (v3 v4 v28 : BitVec 32) (Kt : (Σ' (v46 : FVec F S256x256 .bf16) (v48 : BitVec 32) (v52 : FVec F S64x128 .bf16) (v55 : IVec S64x1 32), IVec S64x1 32) → sProp 𝕄) :
    iprop(recs m ρ K ∗ levAts L lv ∗ ow c L1 ∗ tok (F := F) c 1 3 ∗ tok (F := F) c 1 2 ∗ tok (F := F) c 1 1 ∗ some_ (F := F) c (slB (zc c + 1)) ∗ some_ (F := F) c (slB (zc c + 2)) ∗ some_ (F := F) c (slB (zc c + 3)) ∗ crd3 (F := F) c 0 ∗ pos (F := F) c 0 0 ∗ at_ c MX fullShare (xstg m ρ c) ∗ at_ c MR fullShare (rstg m ρ c) ∗ at_ c ME fullShare (estg m ρ c)
        ∗ (∀ (v48 : BitVec 32), (ow c L3 ∗ pos1 (F := F) c 0 0 ∗ some_ (F := F) (pl c 1) (slA (pc c)) ∗ some_ (F := F) (pl c 1) (slO (pc c)) ∗ some_ (F := F) (pl c 2) (slA (pc c)) ∗ some_ (F := F) (pl c 2) (slO (pc c)) ∗ some_ (F := F) (pl c 3) (slA (pc c)) ∗ some_ (F := F) (pl c 3) (slO (pc c)) ∗ at_ c MX fullShare (xstg m ρ c) ∗ at_ c MR fullShare (rstg m ρ c) ∗ at_ c ME fullShare (estg m ρ c)) -∗ Kt ⟨wE m ρ c, v48, k0_pay2 (xb m ρ c (pc c + 1)), k0_pay3 (rb m ρ c (pc c + 1)), k0_pay4 (wd c)⟩))
      ⊢ Run c (k0_part2 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3 v4 (SemArray.scalar (sig.barrier 0 rfl)) v28) Kt := by
  simp only [k0_part2_eq_skeleton]; unfold k0_part2_skel
  simp only [semSignalWord, semWaitWord, Prog.lift, Prog.bind_op, Prog.bind_ret, Prog.pure_eq_ret, Prog.bind_assoc, wp_deviceId]
  iintro ⟨#HR, #HL, HO, T3, T2, T1, B1, B2, B3, HC, HP, HX, HI, HE, HK⟩
  iapply (wp_sigCol m ρ K c 1 3 (by decide) (by decide) (dev4_eq c) ((1, 2) :: (1, 1) :: L3)) $$ [HO T3 B1]
  · isplitr; · iexact HR
    isplitl [HO]; · iexact HO
    isplitl [T3]; · iexact T3
    iexact B1
  iintro HO
  iapply (wp_sigCol m ρ K c 2 2 (by decide) (by decide) (dev5_eq c) ((1, 1) :: L3)) $$ [HO T2 B2]
  · isplitr; · iexact HR
    isplitl [HO]; · iexact HO
    isplitl [T2]; · iexact T2
    iexact B2
  iintro HO
  iapply (wp_sigCol m ρ K c 3 1 (by decide) (by decide) (dev6_eq c) L3) $$ [HO T1 B3]
  · isplitr; · iexact HR
    isplitl [HO]; · iexact HO
    isplitl [T1]; · iexact T1
    iexact B3
  iintro HO
  iapply (wp_ldE m ρ c) $$ HE; iintro HE
  iapply (wp_ldE m ρ c) $$ HE; iintro HE
  iapply (wp_wtBar m ρ K c L3 (by decide)) $$ [HC HO HP]
  · isplitr; · iexact HR
    isplitr; · iexact HL
    isplitl [HC]; · iexact HC
    isplitl [HO]; · iexact HO
    iexact HP
  iintro ⟨HO, HP, A1, O1, A2, O2, A3, O3⟩
  iapply (wp_ldX m ρ c (pc c + 1) (off1_1 c)) $$ HX; iintro HX
  iapply (wp_ldR m ρ c (pc c + 1) (off2_1 c)) $$ HI; iintro HI
  rw [wE_eq]
  iapply (run_ret c _)
  iapply HK
  isplitl [HO]; · iexact HO
  isplitl [HP]; · iexact HP
  isplitl [A1]; · iexact A1
  isplitl [O1]; · iexact O1
  isplitl [A2]; · iexact A2
  isplitl [O2]; · iexact O2
  isplitl [A3]; · iexact A3
  isplitl [O3]; · iexact O3
  isplitl [HX]; · iexact HX
  isplitl [HI]; · iexact HI
  iexact HE

/-- The first block's products stored and sent; the activations of the second. -/
theorem part3 (c : Dev nD) (v3 v4 v48 : BitVec 32) (Kt : (Σ' (v92 : BitVec 32) (v93 : BitVec 32), FVec F S64x128 .bf16) → sProp 𝕄) :
    iprop(recs m ρ K ∗ ow c L3 ∗ some_ (F := F) c (slP 1) ∗ some_ (F := F) (pl c 1) (slA (pc c)) ∗ tok (F := F) c 2 1 ∗ tok (F := F) c 3 3 ∗ at_ c MX fullShare (xstg m ρ c)
        ∗ (∀ (v92 v93 : BitVec 32), (crd (F := F) c 2 1 ∗ ow c ((3, 1) :: (3, 2) :: L5) ∗ at_ c MX fullShare (xstg m ρ c)) -∗ Kt ⟨v92, v93, k0_pay6 (xb m ρ c (pc c + 3))⟩))
      ⊢ Run c (k0_part3 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3 v4 (wE m ρ c) v48 (k0_pay2 (xb m ρ c (pc c + 1))) (k0_pay3 (rb m ρ c (pc c + 1))) (k0_pay4 (wd c))) Kt := by
  simp only [k0_part3_eq_skeleton]; unfold k0_part3_skel
  simp only [semSignalWord, semWaitWord, Prog.lift, Prog.bind_op, Prog.bind_ret, Prog.pure_eq_ret, Prog.bind_assoc, wp_deviceId]
  iintro ⟨#HR, HO, ⟨%Y, P1⟩, A1, TS, TR, HX, HK⟩
  iapply (wp_ldP c 1 rfl Y) $$ P1; iintro P1
  iapply (wp_stP c 1 rfl Y _ (SA m ρ c (pc c + 1)) (pay5_eq m ρ c (pc c + 1))) $$ P1; iintro P1
  iapply (wp_sndA m ρ K c 1 3 (by decide) (by decide) (dev7_eq c) ((3, 1) :: (3, 2) :: L5) (slP_of 1 rfl) (slA_of _ (off4_c c)) (sem7_of 1 rfl) (sem8_of _ (off3_c c))) $$ [P1 A1 HO TS TR]
  · isplitr; · iexact HR
    isplitl [P1]; · iexact P1
    isplitl [A1]; · iexact A1
    isplitl [HO]; · iexact HO
    isplitl [TS]; · iexact TS
    iexact TR
  iintro ⟨HC, HO⟩
  iapply (wp_ldX m ρ c (pc c + 3) (off1_3 c)) $$ HX; iintro HX
  iapply (run_ret c _)
  iapply HK
  isplitl [HC]; · iexact HC
  isplitl [HO]; · iexact HO
  iexact HX

/-- The second block's. -/
theorem part4 (c : Dev nD) (v3 v4 v92 v93 : BitVec 32) (Kt : (Σ' (v135 : BitVec 32), BitVec 32) → sProp 𝕄) :
    iprop(recs m ρ K ∗ ow c ((3, 1) :: (3, 2) :: L5) ∗ some_ (F := F) c (slP 3) ∗ some_ (F := F) (pl c 3) (slA (pc c)) ∗ tok (F := F) c 2 3 ∗ tok (F := F) c 3 1 ∗ at_ c MR fullShare (rstg m ρ c)
        ∗ (∀ (v135 : BitVec 32), (crd (F := F) c 2 3 ∗ ow c ((3, 2) :: L5) ∗ at_ c MR fullShare (rstg m ρ c)) -∗ Kt ⟨v135, 4#32⟩))
      ⊢ Run c (k0_part4 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3 v4 (wE m ρ c) v92 v93 (k0_pay6 (xb m ρ c (pc c + 3)))) Kt := by
  simp only [k0_part4_eq_skeleton]; unfold k0_part4_skel
  simp only [semSignalWord, semWaitWord, Prog.lift, Prog.bind_op, Prog.bind_ret, Prog.pure_eq_ret, Prog.bind_assoc, wp_deviceId]
  iintro ⟨#HR, HO, ⟨%Y, P3⟩, A3, TS, TR, HI, HK⟩
  iapply (wp_ldR m ρ c (pc c + 3) (off2_3 c)) $$ HI; iintro HI
  iapply (wp_ldP c 3 rfl Y) $$ P3; iintro P3
  iapply (wp_stP c 3 rfl Y _ (SA m ρ c (pc c + 3)) (pay7_eq m ρ c (pc c + 3))) $$ P3; iintro P3
  iapply (wp_sndA m ρ K c 3 1 (by decide) (by decide) (dev8_eq c) ((3, 2) :: L5) (slP_of 3 rfl) (slA_of _ (off4_c c)) (sem7_of 3 rfl) (sem8_of _ (off3_c c))) $$ [P3 A3 HO TS TR]
  · isplitr; · iexact HR
    isplitl [P3]; · iexact P3
    isplitl [A3]; · iexact A3
    isplitl [HO]; · iexact HO
    isplitl [TS]; · iexact TS
    iexact TR
  iintro ⟨HC, HO⟩
  iapply (run_ret c _)
  iapply HK
  isplitl [HC]; · iexact HC
  isplitl [HO]; · iexact HO
  iexact HI

/-- The third block's stored. -/
theorem part5 (c : Dev nD) (v4 v135 : BitVec 32) (Kt : (PUnit) → sProp 𝕄) :
    iprop(some_ (F := F) c (slP 2) ∗ at_ c MX fullShare (xstg m ρ c) ∗ at_ c MR fullShare (rstg m ρ c)
        ∗ (((at_ c (slP 2) fullShare (SA m ρ c (pc c + 2)) ∗ at_ c MX fullShare (xstg m ρ c) ∗ at_ c MR fullShare (rstg m ρ c)) -∗ Kt ⟨⟩)))
      ⊢ Run c (k0_part5 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v4 (wE m ρ c) v135 4#32) Kt := by
  simp only [k0_part5_eq_skeleton]; unfold k0_part5_skel
  simp only [semSignalWord, semWaitWord, Prog.lift, Prog.bind_op, Prog.bind_ret, Prog.pure_eq_ret, Prog.bind_assoc, wp_deviceId]
  iintro ⟨⟨%Y, P2⟩, HX, HI, HK⟩
  iapply (wp_ldX m ρ c (pc c + 2) (off1_2 c)) $$ HX; iintro HX
  iapply (wp_ldR m ρ c (pc c + 2) (off2_2 c)) $$ HI; iintro HI
  iapply (wp_ldP c 2 rfl Y) $$ P2; iintro P2
  iapply (wp_stP c 2 rfl Y _ (SA m ρ c (pc c + 2)) (pay8_eq m ρ c (pc c + 2))) $$ P2; iintro P2
  iapply (run_ret c _)
  iapply HK
  isplitl [P2]; · iexact P2
  isplitl [HX]; · iexact HX
  iexact HI

/-- The third block's sent; the device's own block's products; the first arrival from the plane. -/
theorem part6 (c : Dev nD) (v3 : BitVec 32) (Kt : (FVec F S64x256 .f32) → sProp 𝕄) :
    iprop(recs m ρ K ∗ levAts L lv ∗ ow c ((3, 2) :: L5) ∗ at_ c (slP 2) fullShare (SA m ρ c (pc c + 2)) ∗ some_ (F := F) (pl c 2) (slA (pc c)) ∗ tok (F := F) c 2 2 ∗ tok (F := F) c 3 2 ∗ at_ c MX fullShare (xstg m ρ c) ∗ at_ c MR fullShare (rstg m ρ c) ∗ crd (F := F) c 3 1 ∗ pos (F := F) c 3 1
        ∗ (((crd (F := F) c 2 2 ∗ ow c L5 ∗ at_ c MX fullShare (xstg m ρ c) ∗ at_ c MR fullShare (rstg m ρ c) ∗ pos1 (F := F) c 3 1 ∗ at_ c (slA (pc c + 1)) fullShare (SA m ρ (pl c 1) (pc c))) -∗ Kt (PB m ρ c (pc c)))))
      ⊢ Run c (k0_part6 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3 (wE m ρ c)) Kt := by
  simp only [k0_part6_eq_skeleton]; unfold k0_part6_skel
  simp only [semSignalWord, semWaitWord, Prog.lift, Prog.bind_op, Prog.bind_ret, Prog.pure_eq_ret, Prog.bind_assoc, wp_deviceId]
  iintro ⟨#HR, #HL, HO, P2, A2, TS, TR, HX, HI, C1, Q1, HK⟩
  iapply (wp_sndA m ρ K c 2 2 (by decide) (by decide) (dev9_eq c) (L5) (slP_of 2 rfl) (slA_of _ (off4_c c)) (sem7_of 2 rfl) (sem8_of _ (off3_c c))) $$ [P2 A2 HO TS TR]
  · isplitr; · iexact HR
    isplitl [P2]; · iexact P2
    isplitl [A2]; · iexact A2
    isplitl [HO]; · iexact HO
    isplitl [TS]; · iexact TS
    iexact TR
  iintro ⟨HC, HO⟩
  iapply (wp_ldX m ρ c (pc c) (off5_c c)) $$ HX; iintro HX
  iapply (wp_ldR m ρ c (pc c) (off6_c c)) $$ HI; iintro HI
  iapply (wp_wtA m ρ K c 1 (by decide) L5 (by decide) (sem8_of (pc c + 1) (off7_1 c))) $$ [C1 HO Q1]
  · isplitr; · iexact HR
    isplitr; · iexact HL
    isplitl [C1]; · iexact C1
    isplitl [HO]; · iexact HO
    iexact Q1
  iintro ⟨HO, Q1, A1⟩
  rw [PB_eq]
  iapply (run_ret c _)
  iapply HK
  isplitl [HC]; · iexact HC
  isplitl [HO]; · iexact HO
  isplitl [HX]; · iexact HX
  isplitl [HI]; · iexact HI
  isplitl [Q1]; · iexact Q1
  iexact A1

end Cert.MoE

end
-- ==== Proof.PartsB.lean ====
/-
# The kernel's parts, second half

The sums of the plane and of the column, the block of the result, its exchange, and the waits for what was sent.
-/
module

public import proofs.«01_k».proof.Proof.Steps

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)
variable (K : Dev nD × JIdx → ℕ)

/-- The plane's arrivals summed. -/
theorem part7 (c : Dev nD) (v3 : BitVec 32) (Kt : (Σ' (v234 : FVec F S64x256 .f32), FVec F S64x256 .f32) → sProp 𝕄) :
    iprop(recs m ρ K ∗ levAts L lv ∗ ow c L5 ∗ at_ c (slA (pc c + 1)) fullShare (SA m ρ (pl c 1) (pc c)) ∗ crd (F := F) c 3 3 ∗ pos (F := F) c 3 3 ∗ crd (F := F) c 3 2 ∗ pos (F := F) c 3 2
        ∗ (((ow c L5 ∗ at_ c (slA (pc c + 1)) fullShare (SA m ρ (pl c 1) (pc c)) ∗ pos1 (F := F) c 3 3 ∗ at_ c (slA (pc c + 3)) fullShare (SA m ρ (pl c 3) (pc c)) ∗ pos1 (F := F) c 3 2 ∗ at_ c (slA (pc c + 2)) fullShare (SA m ρ (pl c 2) (pc c))) -∗ Kt ⟨k0_pay10 (PB m ρ c (pc c)) (SA m ρ (pl c 1) (pc c)) (SA m ρ (pl c 3) (pc c)), k0_pay11 (SA m ρ (pl c 2) (pc c))⟩)))
      ⊢ Run c (k0_part7 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3 (PB m ρ c (pc c))) Kt := by
  simp only [k0_part7_eq_skeleton]; unfold k0_part7_skel
  simp only [semSignalWord, semWaitWord, Prog.lift, Prog.bind_op, Prog.bind_ret, Prog.pure_eq_ret, Prog.bind_assoc, wp_deviceId]
  iintro ⟨#HR, #HL, HO, A1, C3, Q3, C2, Q2, HK⟩
  iapply (wp_ldA c (pc c + 1) (off9_1 c) (SA m ρ (pl c 1) (pc c))) $$ A1; iintro A1
  iapply (wp_wtA m ρ K c 3 (by decide) L5 (by decide) (sem8_of (pc c + 3) (off7_3 c))) $$ [C3 HO Q3]
  · isplitr; · iexact HR
    isplitr; · iexact HL
    isplitl [C3]; · iexact C3
    isplitl [HO]; · iexact HO
    iexact Q3
  iintro ⟨HO, Q3, A3⟩
  iapply (wp_ldA c (pc c + 3) (off9_3 c) (SA m ρ (pl c 3) (pc c))) $$ A3; iintro A3
  iapply (wp_wtA m ρ K c 2 (by decide) L5 (by decide) (sem8_of (pc c + 2) (off7_2 c))) $$ [C2 HO Q2]
  · isplitr; · iexact HR
    isplitr; · iexact HL
    isplitl [C2]; · iexact C2
    isplitl [HO]; · iexact HO
    iexact Q2
  iintro ⟨HO, Q2, A2⟩
  iapply (wp_ldA c (pc c + 2) (off9_2 c) (SA m ρ (pl c 2) (pc c))) $$ A2; iintro A2
  iapply (run_ret c _)
  iapply HK
  isplitl [HO]; · iexact HO
  isplitl [A1]; · iexact A1
  isplitl [Q3]; · iexact Q3
  isplitl [A3]; · iexact A3
  isplitl [Q2]; · iexact Q2
  iexact A2

/-- The wait for the column's peers; the plane's sum stored and first sent. -/
theorem part8 (c : Dev nD) (v3 v4 : BitVec 32) (Kt : (FVec F S64x256 .f32) → sProp 𝕄) :
    iprop(recs m ρ K ∗ levAts L lv ∗ ow c L5 ∗ crd3 (F := F) c 1 ∗ pos (F := F) c 1 0 ∗ some_ (F := F) c (slB (zc c)) ∗ tok (F := F) c 4 1 ∗ tok (F := F) c 5 3
        ∗ (((ow c ((5, 2) :: (5, 1) :: L6) ∗ pos1 (F := F) c 1 0 ∗ crd (F := F) c 4 1 ∗ some_ (F := F) (co c 2) (slB (zc c)) ∗ some_ (F := F) (co c 3) (slB (zc c)) ∗ at_ c (slB (zc c)) (sh 2) (SB m ρ c) ∗ at_ c (slB (zc c)) (sh 3) (SB m ρ c)) -∗ Kt (QS m ρ c))))
      ⊢ Run c (k0_part8 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c v3 v4 (k0_pay10 (PB m ρ c (pc c)) (SA m ρ (pl c 1) (pc c)) (SA m ρ (pl c 3) (pc c))) (k0_pay11 (SA m ρ (pl c 2) (pc c)))) Kt := by
  simp only [k0_part8_eq_skeleton]; unfold k0_part8_skel
  simp only [semSignalWord, semWaitWord, Prog.lift, Prog.bind_op, Prog.bind_ret, Prog.pure_eq_ret, Prog.bind_assoc, wp_deviceId]
  iintro ⟨#HR, #HL, HO, HC, HP, ⟨%Y, HB⟩, TS1, TR1, HK⟩
  iapply (wp_wtCol m ρ K c L5 (by decide)) $$ [HC HO HP]
  · isplitr; · iexact HR
    isplitr; · iexact HL
    isplitl [HC]; · iexact HC
    isplitl [HO]; · iexact HO
    iexact HP
  iintro ⟨HO, HP, B1, B2, B3⟩
  iapply (wp_ldB c (zc c) (off10_c c) Y) $$ HB; iintro HB
  iapply (wp_stB c (zc c) (off10_c c) Y _ (SB m ρ c) rfl) $$ HB; iintro HB
  ihave HS := (three_split c (slB (zc c)) (SB m ρ c)) $$ HB
  icases HS with ⟨S1, S2, S3⟩
  iapply (wp_sndB m ρ K c 1 3 (by decide) (by decide) (dev10_eq c) ((5, 2) :: (5, 1) :: L6) (slB_of _ (off12_c c)) (slB_of _ (off12_c c)) (sem9_of 1 rfl) (sem10_of _ (off11_c c))) $$ [S1 B1 HO TS1 TR1]
  · isplitr; · iexact HR
    isplitl [S1]; · iexact S1
    isplitl [B1]; · iexact B1
    isplitl [HO]; · iexact HO
    isplitl [TS1]; · iexact TS1
    iexact TR1
  iintro ⟨HC1, HO⟩
  rw [QS_eq]
  iapply (run_ret c _)
  iapply HK
  isplitl [HO]; · iexact HO
  isplitl [HP]; · iexact HP
  isplitl [HC1]; · iexact HC1
  isplitl [B2]; · iexact B2
  isplitl [B3]; · iexact B3
  isplitl [S2]; · iexact S2
  iexact S3

/-- The plane's sum sent to the other two planes; the first arrival. -/
theorem part9 (c : Dev nD) (v3 v4 : BitVec 32) (Kt : (Σ' (v311 : FVec F S64x256 .f32) (v313 : BitVec 32), BitVec 32) → sProp 𝕄) :
    iprop(recs m ρ K ∗ levAts L lv ∗ ow c ((5, 2) :: (5, 1) :: L6) ∗ some_ (F := F) (co c 2) (slB (zc c)) ∗ some_ (F := F) (co c 3) (slB (zc c)) ∗ at_ c (slB (zc c)) (sh 2) (SB m ρ c) ∗ at_ c (slB (zc c)) (sh 3) (SB m ρ c) ∗ tok (F := F) c 4 2 ∗ tok (F := F) c 5 2 ∗ tok (F := F) c 4 3 ∗ tok (F := F) c 5 1 ∗ crd (F := F) c 5 1 ∗ pos (F := F) c 5 1
        ∗ (∀ (v313 : BitVec 32), (ow c L6 ∗ crd (F := F) c 4 2 ∗ crd (F := F) c 4 3 ∗ pos1 (F := F) c 5 1 ∗ at_ c (slB (zc c + 1)) fullShare (SB m ρ (co c 1))) -∗ Kt ⟨k0_pay14 (QS m ρ c) (SB m ρ (co c 1)), v313, 1#32⟩))
      ⊢ Run c (k0_part9 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3 v4 (QS m ρ c)) Kt := by
  simp only [k0_part9_eq_skeleton]; unfold k0_part9_skel
  simp only [semSignalWord, semWaitWord, Prog.lift, Prog.bind_op, Prog.bind_ret, Prog.pure_eq_ret, Prog.bind_assoc, wp_deviceId]
  iintro ⟨#HR, #HL, HO, B2, B3, S2, S3, TS2, TR2, TS3, TR3, C1, Q1, HK⟩
  iapply (wp_sndB m ρ K c 2 2 (by decide) (by decide) (dev11_eq c) ((5, 1) :: L6) (slB_of _ (off12_c c)) (slB_of _ (off12_c c)) (sem9_of 2 rfl) (sem10_of _ (off11_c c))) $$ [S2 B2 HO TS2 TR2]
  · isplitr; · iexact HR
    isplitl [S2]; · iexact S2
    isplitl [B2]; · iexact B2
    isplitl [HO]; · iexact HO
    isplitl [TS2]; · iexact TS2
    iexact TR2
  iintro ⟨HC2, HO⟩
  iapply (wp_sndB m ρ K c 3 1 (by decide) (by decide) (dev12_eq c) (L6) (slB_of _ (off12_c c)) (slB_of _ (off12_c c)) (sem9_of 3 rfl) (sem10_of _ (off11_c c))) $$ [S3 B3 HO TS3 TR3]
  · isplitr; · iexact HR
    isplitl [S3]; · iexact S3
    isplitl [B3]; · iexact B3
    isplitl [HO]; · iexact HO
    isplitl [TS3]; · iexact TS3
    iexact TR3
  iintro ⟨HC3, HO⟩
  iapply (wp_wtB m ρ K c 1 (by decide) L6 (by decide) (sem10_of (zc c + 1) (off13_1 c))) $$ [C1 HO Q1]
  · isplitr; · iexact HR
    isplitr; · iexact HL
    isplitl [C1]; · iexact C1
    isplitl [HO]; · iexact HO
    iexact Q1
  iintro ⟨HO, Q1, V1⟩
  iapply (wp_ldB c (zc c + 1) (off15_1 c) (SB m ρ (co c 1))) $$ V1; iintro V1
  iapply (run_ret c _)
  iapply HK
  isplitl [HO]; · iexact HO
  isplitl [HC2]; · iexact HC2
  isplitl [HC3]; · iexact HC3
  isplitl [Q1]; · iexact Q1
  iexact V1

/-- The other two arrivals; the device's block of the result. -/
theorem part10 (c : Dev nD) (v3 v4 v313 : BitVec 32) (Kt : (BitVec 32) → sProp 𝕄) :
    iprop(recs m ρ K ∗ levAts L lv ∗ ow c L6 ∗ crd (F := F) c 5 2 ∗ pos (F := F) c 5 2 ∗ crd (F := F) c 5 3 ∗ pos (F := F) c 5 3 ∗ some_ (F := F) c (slO (pc c))
        ∗ (∀ (v346 : BitVec 32), (ow c L6 ∗ pos1 (F := F) c 5 2 ∗ at_ c (slB (zc c + 2)) fullShare (SB m ρ (co c 2)) ∗ pos1 (F := F) c 5 3 ∗ at_ c (slB (zc c + 3)) fullShare (SB m ρ (co c 3)) ∗ at_ c (slO (pc c)) fullShare (TS m ρ c)) -∗ Kt v346))
      ⊢ Run c (k0_part10 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3 v4 (k0_pay14 (QS m ρ c) (SB m ρ (co c 1))) v313 1#32) Kt := by
  simp only [k0_part10_eq_skeleton]; unfold k0_part10_skel
  simp only [semSignalWord, semWaitWord, Prog.lift, Prog.bind_op, Prog.bind_ret, Prog.pure_eq_ret, Prog.bind_assoc, wp_deviceId]
  iintro ⟨#HR, #HL, HO, C2, Q2, C3, Q3, ⟨%Y, HU⟩, HK⟩
  iapply (wp_wtB m ρ K c 2 (by decide) L6 (by decide) (sem10_of (zc c + 2) (off13_2 c))) $$ [C2 HO Q2]
  · isplitr; · iexact HR
    isplitr; · iexact HL
    isplitl [C2]; · iexact C2
    isplitl [HO]; · iexact HO
    iexact Q2
  iintro ⟨HO, Q2, V2⟩
  iapply (wp_ldB c (zc c + 2) (off15_2 c) (SB m ρ (co c 2))) $$ V2; iintro V2
  iapply (wp_wtB m ρ K c 3 (by decide) L6 (by decide) (sem10_of (zc c + 3) (off13_3 c))) $$ [C3 HO Q3]
  · isplitr; · iexact HR
    isplitr; · iexact HL
    isplitl [C3]; · iexact C3
    isplitl [HO]; · iexact HO
    iexact Q3
  iintro ⟨HO, Q3, V3⟩
  iapply (wp_ldB c (zc c + 3) (off15_3 c) (SB m ρ (co c 3))) $$ V3; iintro V3
  iapply (wp_ldO c (pc c) (off16_c c) Y) $$ HU; iintro HU
  iapply (wp_stO c (pc c) (off16_c c) Y _ (TS m ρ c) rfl) $$ HU; iintro HU
  iapply (run_ret c _)
  iapply HK
  isplitl [HO]; · iexact HO
  isplitl [Q2]; · iexact Q2
  isplitl [V2]; · iexact V2
  isplitl [Q3]; · iexact Q3
  isplitl [V3]; · iexact V3
  iexact HU

/-- The block sent to two peers. -/
theorem part11 (c : Dev nD) (v3 v4 v346 : BitVec 32) (Kt : (PUnit) → sProp 𝕄) :
    iprop(recs m ρ K ∗ ow c L6 ∗ at_ c (slO (pc c)) fullShare (TS m ρ c) ∗ some_ (F := F) (pl c 1) (slO (pc c)) ∗ some_ (F := F) (pl c 3) (slO (pc c)) ∗ tok (F := F) c 6 1 ∗ tok (F := F) c 7 3 ∗ tok (F := F) c 6 3 ∗ tok (F := F) c 7 1
        ∗ (((ow c [(7, 2)] ∗ at_ c (slO (pc c)) (sh 2) (TS m ρ c) ∗ crd (F := F) c 6 1 ∗ crd (F := F) c 6 3) -∗ Kt ⟨⟩)))
      ⊢ Run c (k0_part11 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c v3 v4 v346) Kt := by
  simp only [k0_part11_eq_skeleton]; unfold k0_part11_skel
  simp only [semSignalWord, semWaitWord, Prog.lift, Prog.bind_op, Prog.bind_ret, Prog.pure_eq_ret, Prog.bind_assoc, wp_deviceId]
  iintro ⟨#HR, HO, HU, O1, O3, TS1, TR1, TS3, TR3, HK⟩
  ihave HS := (three_split c (slO (pc c)) (TS m ρ c)) $$ HU
  icases HS with ⟨U1, U2, U3⟩
  iapply (wp_sndC m ρ K c 1 3 (by decide) (by decide) (dev13_eq c) ([(7, 1), (7, 2)]) (slO_of _ (off17_c c)) (slO_of _ (off17_c c)) (sem11_of 1 rfl) (sem12_of _ (off3_c c))) $$ [U1 O1 HO TS1 TR1]
  · isplitr; · iexact HR
    isplitl [U1]; · iexact U1
    isplitl [O1]; · iexact O1
    isplitl [HO]; · iexact HO
    isplitl [TS1]; · iexact TS1
    iexact TR1
  iintro ⟨HC1, HO⟩
  iapply (wp_sndC m ρ K c 3 1 (by decide) (by decide) (dev14_eq c) ([(7, 2)]) (slO_of _ (off17_c c)) (slO_of _ (off17_c c)) (sem11_of 3 rfl) (sem12_of _ (off3_c c))) $$ [U3 O3 HO TS3 TR3]
  · isplitr; · iexact HR
    isplitl [U3]; · iexact U3
    isplitl [O3]; · iexact O3
    isplitl [HO]; · iexact HO
    isplitl [TS3]; · iexact TS3
    iexact TR3
  iintro ⟨HC3, HO⟩
  iapply (run_ret c _)
  iapply HK
  isplitl [HO]; · iexact HO
  isplitl [U2]; · iexact U2
  isplitl [HC1]; · iexact HC1
  iexact HC3

/-- And to the third; two of the peers' blocks. -/
theorem part12 (c : Dev nD) (v3 : BitVec 32) (Kt : (BitVec 32) → sProp 𝕄) :
    iprop(recs m ρ K ∗ levAts L lv ∗ ow c [(7, 2)] ∗ at_ c (slO (pc c)) (sh 2) (TS m ρ c) ∗ some_ (F := F) (pl c 2) (slO (pc c)) ∗ tok (F := F) c 6 2 ∗ tok (F := F) c 7 2 ∗ crd (F := F) c 7 1 ∗ pos (F := F) c 7 1 ∗ crd (F := F) c 7 3 ∗ pos (F := F) c 7 3
        ∗ (∀ (v411 : BitVec 32), (ow c [] ∗ crd (F := F) c 6 2 ∗ pos1 (F := F) c 7 1 ∗ at_ c (slO (pc c + 1)) fullShare (TS m ρ (pl c 1)) ∗ pos1 (F := F) c 7 3 ∗ at_ c (slO (pc c + 3)) fullShare (TS m ρ (pl c 3))) -∗ Kt v411))
      ⊢ Run c (k0_part12 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c (wd c) v3) Kt := by
  simp only [k0_part12_eq_skeleton]; unfold k0_part12_skel
  simp only [semSignalWord, semWaitWord, Prog.lift, Prog.bind_op, Prog.bind_ret, Prog.pure_eq_ret, Prog.bind_assoc, wp_deviceId]
  iintro ⟨#HR, #HL, HO, U2, O2, TS2, TR2, C1, Q1, C3, Q3, HK⟩
  iapply (wp_sndC m ρ K c 2 2 (by decide) (by decide) (dev15_eq c) ([]) (slO_of _ (off17_c c)) (slO_of _ (off17_c c)) (sem11_of 2 rfl) (sem12_of _ (off3_c c))) $$ [U2 O2 HO TS2 TR2]
  · isplitr; · iexact HR
    isplitl [U2]; · iexact U2
    isplitl [O2]; · iexact O2
    isplitl [HO]; · iexact HO
    isplitl [TS2]; · iexact TS2
    iexact TR2
  iintro ⟨HC2, HO⟩
  iapply (wp_wtC m ρ K c 1 (by decide) [] (by decide) (sem12_of (pc c + 1) (off7_1 c))) $$ [C1 HO Q1]
  · isplitr; · iexact HR
    isplitr; · iexact HL
    isplitl [C1]; · iexact C1
    isplitl [HO]; · iexact HO
    iexact Q1
  iintro ⟨HO, Q1, V1⟩
  iapply (wp_wtC m ρ K c 3 (by decide) [] (by decide) (sem12_of (pc c + 3) (off7_3 c))) $$ [C3 HO Q3]
  · isplitr; · iexact HR
    isplitr; · iexact HL
    isplitl [C3]; · iexact C3
    isplitl [HO]; · iexact HO
    iexact Q3
  iintro ⟨HO, Q3, V3⟩
  iapply (run_ret c _)
  iapply HK
  isplitl [HO]; · iexact HO
  isplitl [HC2]; · iexact HC2
  isplitl [Q1]; · iexact Q1
  isplitl [V1]; · iexact V1
  isplitl [Q3]; · iexact Q3
  iexact V3

/-- The third; and the reads of the first exchange's sources over. -/
theorem part13 (c : Dev nD) (v411 : BitVec 32) (Kt : (PUnit) → sProp 𝕄) :
    iprop(recs m ρ K ∗ levAts L lv ∗ ow c [] ∗ crd (F := F) c 7 2 ∗ pos (F := F) c 7 2 ∗ crd (F := F) c 2 1 ∗ pos (F := F) c 2 1 ∗ crd (F := F) c 2 3 ∗ pos (F := F) c 2 3 ∗ crd (F := F) c 2 2 ∗ pos (F := F) c 2 2
        ∗ (((ow c [] ∗ pos1 (F := F) c 7 2 ∗ at_ c (slO (pc c + 2)) fullShare (TS m ρ (pl c 2)) ∗ pos1 (F := F) c 2 1 ∗ xPay m ρ c 0 1 ∗ pos1 (F := F) c 2 3 ∗ xPay m ρ c 0 3 ∗ pos1 (F := F) c 2 2 ∗ xPay m ρ c 0 2) -∗ Kt ⟨⟩)))
      ⊢ Run c (k0_part13 MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9 c v411) Kt := by
  simp only [k0_part13_eq_skeleton]; unfold k0_part13_skel
  simp only [semSignalWord, semWaitWord, Prog.lift, Prog.bind_op, Prog.bind_ret, Prog.pure_eq_ret, Prog.bind_assoc, wp_deviceId]
  iintro ⟨#HR, #HL, HO, C2, Q2, D1, E1, D3, E3, D2, E2, HK⟩
  iapply (wp_wtC m ρ K c 2 (by decide) [] (by decide) (sem12_of (pc c + 2) (off7_2 c))) $$ [C2 HO Q2]
  · isplitr; · iexact HR
    isplitr; · iexact HL
    isplitl [C2]; · iexact C2
    isplitl [HO]; · iexact HO
    iexact Q2
  iintro ⟨HO, Q2, V2⟩
  iapply (wp_wtSA m ρ K c 1 (by decide) (sem7_of 1 rfl)) $$ [D1 HO E1]
  · isplitr; · iexact HR
    isplitr; · iexact HL
    isplitl [D1]; · iexact D1
    isplitl [HO]; · iexact HO
    iexact E1
  iintro ⟨HO, E1, P1⟩
  iapply (wp_wtSA m ρ K c 3 (by decide) (sem7_of 3 rfl)) $$ [D3 HO E3]
  · isplitr; · iexact HR
    isplitr; · iexact HL
    isplitl [D3]; · iexact D3
    isplitl [HO]; · iexact HO
    iexact E3
  iintro ⟨HO, E3, P3⟩
  iapply (wp_wtSA m ρ K c 2 (by decide) (sem7_of 2 rfl)) $$ [D2 HO E2]
  · isplitr; · iexact HR
    isplitr; · iexact HL
    isplitl [D2]; · iexact D2
    isplitl [HO]; · iexact HO
    iexact E2
  iintro ⟨HO, E2, P2⟩
  iapply (run_ret c _)
  iapply HK
  isplitl [HO]; · iexact HO
  isplitl [Q2]; · iexact Q2
  isplitl [V2]; · iexact V2
  isplitl [E1]; · iexact E1
  isplitl [P1]; · iexact P1
  isplitl [E3]; · iexact E3
  isplitl [P3]; · iexact P3
  isplitl [E2]; · iexact E2
  iexact P2

end Cert.MoE

end
-- ==== Proof.BodyRun.lean ====
/-
# The body of the kernel, run

The thirteen parts one after the other: from what a device starts with to the pieces it holds at the end.
-/
module

public import proofs.«01_k».proof.Proof.PartsA
public import proofs.«01_k».proof.Proof.PartsB

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

variable (K : Dev nD × JIdx → ℕ)

set_option maxHeartbeats 2000000 in
/-- The whole body, part after part. -/
theorem run_body (c : Dev nD) (Kt : PUnit → sProp 𝕄) :
    iprop(recs m ρ K ∗ levAts L lv ∗ ow c L0 ∗ tok (F := F) c 0 1 ∗ tok (F := F) c 0 2 ∗ tok (F := F) c 0 3 ∗ tok (F := F) c 1 1 ∗ tok (F := F) c 1 2 ∗ tok (F := F) c 1 3 ∗ tok (F := F) c 2 1 ∗ tok (F := F) c 2 2 ∗ tok (F := F) c 2 3 ∗ tok (F := F) c 3 1 ∗ tok (F := F) c 3 2 ∗ tok (F := F) c 3 3 ∗ tok (F := F) c 4 1 ∗ tok (F := F) c 4 2 ∗ tok (F := F) c 4 3 ∗ tok (F := F) c 5 1 ∗ tok (F := F) c 5 2 ∗ tok (F := F) c 5 3 ∗ tok (F := F) c 6 1 ∗ tok (F := F) c 6 2 ∗ tok (F := F) c 6 3 ∗ tok (F := F) c 7 1 ∗ tok (F := F) c 7 2 ∗ tok (F := F) c 7 3 ∗ crd3 (F := F) c 0 ∗ crd3 (F := F) c 1 ∗ crd (F := F) c 3 1 ∗ crd (F := F) c 3 2 ∗ crd (F := F) c 3 3 ∗ crd (F := F) c 5 1 ∗ crd (F := F) c 5 2 ∗ crd (F := F) c 5 3 ∗ crd (F := F) c 7 1 ∗ crd (F := F) c 7 2 ∗ crd (F := F) c 7 3 ∗ pos (F := F) c 0 0 ∗ pos (F := F) c 1 0 ∗ pos (F := F) c 2 1 ∗ pos (F := F) c 2 2 ∗ pos (F := F) c 2 3 ∗ pos (F := F) c 3 1 ∗ pos (F := F) c 3 2 ∗ pos (F := F) c 3 3 ∗ pos (F := F) c 4 1 ∗ pos (F := F) c 4 2 ∗ pos (F := F) c 4 3 ∗ pos (F := F) c 5 1 ∗ pos (F := F) c 5 2 ∗ pos (F := F) c 5 3 ∗ pos (F := F) c 6 1 ∗ pos (F := F) c 6 2 ∗ pos (F := F) c 6 3 ∗ pos (F := F) c 7 1 ∗ pos (F := F) c 7 2 ∗ pos (F := F) c 7 3 ∗ at_ c MX fullShare (xstg m ρ c) ∗ at_ c MR fullShare (rstg m ρ c) ∗ at_ c ME fullShare (estg m ρ c) ∗ some_ (F := F) c (slP 1) ∗ some_ (F := F) c (slP 2) ∗ some_ (F := F) c (slP 3) ∗ some_ (F := F) c (slA (pc c + 1)) ∗ some_ (F := F) c (slA (pc c + 2)) ∗ some_ (F := F) c (slA (pc c + 3)) ∗ some_ (F := F) c (slB (zc c)) ∗ some_ (F := F) c (slB (zc c + 1)) ∗ some_ (F := F) c (slB (zc c + 2)) ∗ some_ (F := F) c (slB (zc c + 3)) ∗ some_ (F := F) c (slO (pc c)) ∗ some_ (F := F) c (slO (pc c + 1)) ∗ some_ (F := F) c (slO (pc c + 2)) ∗ some_ (F := F) c (slO (pc c + 3))
        ∗ ((ow c [] ∗ at_ c MX fullShare (xstg m ρ c) ∗ at_ c MR fullShare (rstg m ρ c) ∗ at_ c ME fullShare (estg m ρ c) ∗ pos1 (F := F) c 0 0 ∗ pos1 (F := F) c 1 0 ∗ pos1 (F := F) c 2 1 ∗ pos1 (F := F) c 2 2 ∗ pos1 (F := F) c 2 3 ∗ pos1 (F := F) c 3 1 ∗ pos1 (F := F) c 3 2 ∗ pos1 (F := F) c 3 3 ∗ pos1 (F := F) c 4 1 ∗ pos1 (F := F) c 4 2 ∗ pos1 (F := F) c 4 3 ∗ pos1 (F := F) c 5 1 ∗ pos1 (F := F) c 5 2 ∗ pos1 (F := F) c 5 3 ∗ pos1 (F := F) c 6 1 ∗ pos1 (F := F) c 6 2 ∗ pos1 (F := F) c 6 3 ∗ pos1 (F := F) c 7 1 ∗ pos1 (F := F) c 7 2 ∗ pos1 (F := F) c 7 3 ∗ xPay m ρ c 0 1 ∗ xPay m ρ c 0 2 ∗ xPay m ρ c 0 3 ∗ at_ c (slA (pc c + 1)) fullShare (SA m ρ (pl c 1) (pc c)) ∗ at_ c (slA (pc c + 2)) fullShare (SA m ρ (pl c 2) (pc c)) ∗ at_ c (slA (pc c + 3)) fullShare (SA m ρ (pl c 3) (pc c)) ∗ xPay m ρ c 2 1 ∗ xPay m ρ c 2 2 ∗ xPay m ρ c 2 3 ∗ at_ c (slB (zc c + 1)) fullShare (SB m ρ (co c 1)) ∗ at_ c (slB (zc c + 2)) fullShare (SB m ρ (co c 2)) ∗ at_ c (slB (zc c + 3)) fullShare (SB m ρ (co c 3)) ∗ xPay m ρ c 4 1 ∗ xPay m ρ c 4 2 ∗ xPay m ρ c 4 3 ∗ at_ c (slO (pc c + 1)) fullShare (TS m ρ (pl c 1)) ∗ at_ c (slO (pc c + 2)) fullShare (TS m ρ (pl c 2)) ∗ at_ c (slO (pc c + 3)) fullShare (TS m ρ (pl c 3))) -∗ Kt ⟨⟩))
      ⊢ Run c (cc0_body MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9) Kt := by
  simp only [cc0_body_eq_skeleton]; unfold cc0_body_skel
  simp only [k0_part14_eq_skeleton]; unfold k0_part14_skel
  simp only [Prog.bind_assoc]
  iintro ⟨#HR, #HL, HO, T0_1, T0_2, T0_3, T1_1, T1_2, T1_3, T2_1, T2_2, T2_3, T3_1, T3_2, T3_3, T4_1, T4_2, T4_3, T5_1, T5_2, T5_3, T6_1, T6_2, T6_3, T7_1, T7_2, T7_3, C0, C1, C3_1, C3_2, C3_3, C5_1, C5_2, C5_3, C7_1, C7_2, C7_3, Q0, Q1, Q2_1, Q2_2, Q2_3, Q3_1, Q3_2, Q3_3, Q4_1, Q4_2, Q4_3, Q5_1, Q5_2, Q5_3, Q6_1, Q6_2, Q6_3, Q7_1, Q7_2, Q7_3, HX, HI, HE, P1, P2, P3, A1, A2, A3, B0, B1, B2, B3, O0, O1, O2, O3, HK⟩
  iapply (run_bind c _ _)
  iapply (part1 m ρ K c  _)
  isplitr; · iexact HR
  isplitl [HO]; · iexact HO
  isplitl [T0_3]; · iexact T0_3
  isplitl [T0_2]; · iexact T0_2
  isplitl [T0_1]; · iexact T0_1
  isplitl [A1]; · iexact A1
  isplitl [A2]; · iexact A2
  isplitl [A3]; · iexact A3
  isplitl [O1]; · iexact O1
  isplitl [O2]; · iexact O2
  isplitl [O3]; · iexact O3
  iintro %v3 %v4 %v28 HO
  try dsimp only
  iapply (run_bind c _ _)
  iapply (part2 m ρ K c _ _ _ _)
  isplitr; · iexact HR
  isplitr; · iexact HL
  isplitl [HO]; · iexact HO
  isplitl [T1_3]; · iexact T1_3
  isplitl [T1_2]; · iexact T1_2
  isplitl [T1_1]; · iexact T1_1
  isplitl [B1]; · iexact B1
  isplitl [B2]; · iexact B2
  isplitl [B3]; · iexact B3
  isplitl [C0]; · iexact C0
  isplitl [Q0]; · iexact Q0
  isplitl [HX]; · iexact HX
  isplitl [HI]; · iexact HI
  isplitl [HE]; · iexact HE
  iintro %v48 ⟨HO, Q0, Y1, Z1, Y2, Z2, Y3, Z3, HX, HI, HE⟩
  try dsimp only
  iapply (run_bind c _ _)
  iapply (part3 m ρ K c _ _ _ _)
  isplitr; · iexact HR
  isplitl [HO]; · iexact HO
  isplitl [P1]; · iexact P1
  isplitl [Y1]; · iexact Y1
  isplitl [T2_1]; · iexact T2_1
  isplitl [T3_3]; · iexact T3_3
  isplitl [HX]; · iexact HX
  iintro %v92 %v93 ⟨C2_1, HO, HX⟩
  try dsimp only
  iapply (run_bind c _ _)
  iapply (part4 m ρ K c _ _ _ _ _)
  isplitr; · iexact HR
  isplitl [HO]; · iexact HO
  isplitl [P3]; · iexact P3
  isplitl [Y3]; · iexact Y3
  isplitl [T2_3]; · iexact T2_3
  isplitl [T3_1]; · iexact T3_1
  isplitl [HI]; · iexact HI
  iintro %v135 ⟨C2_3, HO, HI⟩
  try dsimp only
  iapply (run_bind c _ _)
  iapply (part5 m ρ c _ _ _)
  isplitl [P2]; · iexact P2
  isplitl [HX]; · iexact HX
  isplitl [HI]; · iexact HI
  iintro  ⟨P2, HX, HI⟩
  try dsimp only
  iapply (run_bind c _ _)
  iapply (part6 m ρ K c _ _)
  isplitr; · iexact HR
  isplitr; · iexact HL
  isplitl [HO]; · iexact HO
  isplitl [P2]; · iexact P2
  isplitl [Y2]; · iexact Y2
  isplitl [T2_2]; · iexact T2_2
  isplitl [T3_2]; · iexact T3_2
  isplitl [HX]; · iexact HX
  isplitl [HI]; · iexact HI
  isplitl [C3_1]; · iexact C3_1
  isplitl [Q3_1]; · iexact Q3_1
  iintro  ⟨C2_2, HO, HX, HI, Q3_1, A1⟩
  try dsimp only
  iapply (run_bind c _ _)
  iapply (part7 m ρ K c _ _)
  isplitr; · iexact HR
  isplitr; · iexact HL
  isplitl [HO]; · iexact HO
  isplitl [A1]; · iexact A1
  isplitl [C3_3]; · iexact C3_3
  isplitl [Q3_3]; · iexact Q3_3
  isplitl [C3_2]; · iexact C3_2
  isplitl [Q3_2]; · iexact Q3_2
  iintro  ⟨HO, A1, Q3_3, A3, Q3_2, A2⟩
  try dsimp only
  iapply (run_bind c _ _)
  iapply (part8 m ρ K c _ _ _)
  isplitr; · iexact HR
  isplitr; · iexact HL
  isplitl [HO]; · iexact HO
  isplitl [C1]; · iexact C1
  isplitl [Q1]; · iexact Q1
  isplitl [B0]; · iexact B0
  isplitl [T4_1]; · iexact T4_1
  isplitl [T5_3]; · iexact T5_3
  iintro  ⟨HO, Q1, C4_1, V2, V3, S2, S3⟩
  try dsimp only
  iapply (run_bind c _ _)
  iapply (part9 m ρ K c _ _ _)
  isplitr; · iexact HR
  isplitr; · iexact HL
  isplitl [HO]; · iexact HO
  isplitl [V2]; · iexact V2
  isplitl [V3]; · iexact V3
  isplitl [S2]; · iexact S2
  isplitl [S3]; · iexact S3
  isplitl [T4_2]; · iexact T4_2
  isplitl [T5_2]; · iexact T5_2
  isplitl [T4_3]; · iexact T4_3
  isplitl [T5_1]; · iexact T5_1
  isplitl [C5_1]; · iexact C5_1
  isplitl [Q5_1]; · iexact Q5_1
  iintro %v313 ⟨HO, C4_2, C4_3, Q5_1, B1⟩
  try dsimp only
  iapply (run_bind c _ _)
  iapply (part10 m ρ K c _ _ _ _)
  isplitr; · iexact HR
  isplitr; · iexact HL
  isplitl [HO]; · iexact HO
  isplitl [C5_2]; · iexact C5_2
  isplitl [Q5_2]; · iexact Q5_2
  isplitl [C5_3]; · iexact C5_3
  isplitl [Q5_3]; · iexact Q5_3
  isplitl [O0]; · iexact O0
  iintro %v346 ⟨HO, Q5_2, B2, Q5_3, B3, O0⟩
  try dsimp only
  iapply (run_bind c _ _)
  iapply (part11 m ρ K c _ _ _ _)
  isplitr; · iexact HR
  isplitl [HO]; · iexact HO
  isplitl [O0]; · iexact O0
  isplitl [Z1]; · iexact Z1
  isplitl [Z3]; · iexact Z3
  isplitl [T6_1]; · iexact T6_1
  isplitl [T7_3]; · iexact T7_3
  isplitl [T6_3]; · iexact T6_3
  isplitl [T7_1]; · iexact T7_1
  iintro  ⟨HO, U2, C6_1, C6_3⟩
  try dsimp only
  iapply (run_bind c _ _)
  iapply (part12 m ρ K c _ _)
  isplitr; · iexact HR
  isplitr; · iexact HL
  isplitl [HO]; · iexact HO
  isplitl [U2]; · iexact U2
  isplitl [Z2]; · iexact Z2
  isplitl [T6_2]; · iexact T6_2
  isplitl [T7_2]; · iexact T7_2
  isplitl [C7_1]; · iexact C7_1
  isplitl [Q7_1]; · iexact Q7_1
  isplitl [C7_3]; · iexact C7_3
  isplitl [Q7_3]; · iexact Q7_3
  iintro %v411 ⟨HO, C6_2, Q7_1, O1, Q7_3, O3⟩
  try dsimp only
  iapply (run_bind c _ _)
  iapply (part13 m ρ K c _ _)
  isplitr; · iexact HR
  isplitr; · iexact HL
  isplitl [HO]; · iexact HO
  isplitl [C7_2]; · iexact C7_2
  isplitl [Q7_2]; · iexact Q7_2
  isplitl [C2_1]; · iexact C2_1
  isplitl [Q2_1]; · iexact Q2_1
  isplitl [C2_3]; · iexact C2_3
  isplitl [Q2_3]; · iexact Q2_3
  isplitl [C2_2]; · iexact C2_2
  isplitl [Q2_2]; · iexact Q2_2
  iintro  ⟨HO, Q7_2, O2, Q2_1, P1, Q2_3, P3, Q2_2, P2⟩
  try dsimp only
  simp only [Prog.lift, Prog.bind_op, Prog.bind_ret, Prog.pure_eq_ret]
  iapply (wp_wtSB m ρ K c 1 (by decide) (sem9_of 1 rfl)) $$ [C4_1 HO Q4_1]
  · isplitr; · iexact HR
    isplitr; · iexact HL
    isplitl [C4_1]; · iexact C4_1
    isplitl [HO]; · iexact HO
    iexact Q4_1
  iintro ⟨HO, Q4_1, S1⟩
  iapply (wp_wtSB m ρ K c 2 (by decide) (sem9_of 2 rfl)) $$ [C4_2 HO Q4_2]
  · isplitr; · iexact HR
    isplitr; · iexact HL
    isplitl [C4_2]; · iexact C4_2
    isplitl [HO]; · iexact HO
    iexact Q4_2
  iintro ⟨HO, Q4_2, S2⟩
  iapply (wp_wtSB m ρ K c 3 (by decide) (sem9_of 3 rfl)) $$ [C4_3 HO Q4_3]
  · isplitr; · iexact HR
    isplitr; · iexact HL
    isplitl [C4_3]; · iexact C4_3
    isplitl [HO]; · iexact HO
    iexact Q4_3
  iintro ⟨HO, Q4_3, S3⟩
  iapply (wp_wtSC m ρ K c 1 (by decide) (sem11_of 1 rfl)) $$ [C6_1 HO Q6_1]
  · isplitr; · iexact HR
    isplitr; · iexact HL
    isplitl [C6_1]; · iexact C6_1
    isplitl [HO]; · iexact HO
    iexact Q6_1
  iintro ⟨HO, Q6_1, U1⟩
  iapply (wp_wtSC m ρ K c 3 (by decide) (sem11_of 3 rfl)) $$ [C6_3 HO Q6_3]
  · isplitr; · iexact HR
    isplitr; · iexact HL
    isplitl [C6_3]; · iexact C6_3
    isplitl [HO]; · iexact HO
    iexact Q6_3
  iintro ⟨HO, Q6_3, U3⟩
  iapply (wp_wtSC m ρ K c 2 (by decide) (sem11_of 2 rfl)) $$ [C6_2 HO Q6_2]
  · isplitr; · iexact HR
    isplitr; · iexact HL
    isplitl [C6_2]; · iexact C6_2
    isplitl [HO]; · iexact HO
    iexact Q6_2
  iintro ⟨HO, Q6_2, U2⟩
  iapply (run_ret c _)
  iapply HK
  isplitl [HO]; · iexact HO
  isplitl [HX]; · iexact HX
  isplitl [HI]; · iexact HI
  isplitl [HE]; · iexact HE
  isplitl [Q0]; · iexact Q0
  isplitl [Q1]; · iexact Q1
  isplitl [Q2_1]; · iexact Q2_1
  isplitl [Q2_2]; · iexact Q2_2
  isplitl [Q2_3]; · iexact Q2_3
  isplitl [Q3_1]; · iexact Q3_1
  isplitl [Q3_2]; · iexact Q3_2
  isplitl [Q3_3]; · iexact Q3_3
  isplitl [Q4_1]; · iexact Q4_1
  isplitl [Q4_2]; · iexact Q4_2
  isplitl [Q4_3]; · iexact Q4_3
  isplitl [Q5_1]; · iexact Q5_1
  isplitl [Q5_2]; · iexact Q5_2
  isplitl [Q5_3]; · iexact Q5_3
  isplitl [Q6_1]; · iexact Q6_1
  isplitl [Q6_2]; · iexact Q6_2
  isplitl [Q6_3]; · iexact Q6_3
  isplitl [Q7_1]; · iexact Q7_1
  isplitl [Q7_2]; · iexact Q7_2
  isplitl [Q7_3]; · iexact Q7_3
  isplitl [P1]; · iexact P1
  isplitl [P2]; · iexact P2
  isplitl [P3]; · iexact P3
  isplitl [A1]; · iexact A1
  isplitl [A2]; · iexact A2
  isplitl [A3]; · iexact A3
  isplitl [S1]; · iexact S1
  isplitl [S2]; · iexact S2
  isplitl [S3]; · iexact S3
  isplitl [B1]; · iexact B1
  isplitl [B2]; · iexact B2
  isplitl [B3]; · iexact B3
  isplitl [U1]; · iexact U1
  isplitl [U2]; · iexact U2
  isplitl [U3]; · iexact U3
  isplitl [O1]; · iexact O1
  isplitl [O2]; · iexact O2
  iexact O3

end Cert.MoE

end
-- ==== Proof.Group.lean ====
/-
# Lists of what a device holds

Something of each of a device's semaphores, listed as the kernel counts on them; and how the cells close.
-/
module

public import proofs.«01_k».proof.Proof.Steps

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

omit [FloatOps F] in
/-- Four conjuncts, one by one; -/
theorem four0 (R : Fin 4 → sProp 𝕄) : bigSep Finset.univ R = iprop(R 0 ∗ R 1 ∗ R 2 ∗ R 3) := by
  rw [bigSep_univ_eq_bigSepL [0, 1, 2, 3] (by decide) (by decide)]; rfl
omit [FloatOps F] in
/-- six; -/
theorem six (R : Fin 6 → sProp 𝕄) : bigSep Finset.univ R = iprop(R 0 ∗ R 1 ∗ R 2 ∗ R 3 ∗ R 4 ∗ R 5) := by
  rw [bigSep_univ_eq_bigSepL [0, 1, 2, 3, 4, 5] (by decide) (by decide)]; rfl
omit [FloatOps F] in
/-- eight. -/
theorem eight (R : Fin 8 → sProp 𝕄) : bigSep Finset.univ R = iprop(R 0 ∗ R 1 ∗ R 2 ∗ R 3 ∗ R 4 ∗ R 5 ∗ R 6 ∗ R 7) := by
  rw [bigSep_univ_eq_bigSepL [0, 1, 2, 3, 4, 5, 6, 7] (by decide) (by decide)]; rfl

omit [FloatOps F] in
/-- One row of transfer semaphores, counted from its base. -/
theorem row_from (b : Fin 4) (R : Fin 4 → sProp 𝕄) : bigSep Finset.univ R = iprop(R (b + 0) ∗ R (b + 1) ∗ R (b + 2) ∗ R (b + 3)) := by
  rw [bigSep_univ_equiv (addE b) R, four0]; rfl

omit [FloatOps F] in
/-- Something of every semaphore: of the barrier's, of the column's, and of the six rows', each from its base. -/
theorem all_cells (c : Dev nD) (R : JIdx → sProp 𝕄) :
    bigSep Finset.univ R = iprop(R (idx c 0 0) ∗ R (idx c 1 0)
      ∗ (R (idx c 2 0) ∗ R (idx c 2 1) ∗ R (idx c 2 2) ∗ R (idx c 2 3)) ∗ (R (idx c 3 0) ∗ R (idx c 3 1) ∗ R (idx c 3 2) ∗ R (idx c 3 3))
      ∗ (R (idx c 4 0) ∗ R (idx c 4 1) ∗ R (idx c 4 2) ∗ R (idx c 4 3)) ∗ (R (idx c 5 0) ∗ R (idx c 5 1) ∗ R (idx c 5 2) ∗ R (idx c 5 3))
      ∗ (R (idx c 6 0) ∗ R (idx c 6 1) ∗ R (idx c 6 2) ∗ R (idx c 6 3)) ∗ (R (idx c 7 0) ∗ R (idx c 7 1) ∗ R (idx c 7 2) ∗ R (idx c 7 3))) := by
  have e0 : (bigSep Finset.univ fun a : Unit => R (.inl a)) = R (idx c 0 0) := bigSep_univ_of_subsingleton ()
  have e1 : (bigSep Finset.univ fun a : Unit => R (.inr (.inl a))) = R (idx c 1 0) := bigSep_univ_of_subsingleton ()
  rw [bigSep_univ_sum R, bigSep_univ_sum (fun b => R (.inr b)), bigSep_univ_prod (fun b => R (.inr (.inr b))), six, e0, e1,
    row_from (base c 0) (fun b => R (.inr (.inr (0, b)))), row_from (base c 1) (fun b => R (.inr (.inr (1, b)))),
    row_from (base c 2) (fun b => R (.inr (.inr (2, b)))), row_from (base c 3) (fun b => R (.inr (.inr (3, b)))),
    row_from (base c 4) (fun b => R (.inr (.inr (4, b)))), row_from (base c 5) (fun b => R (.inr (.inr (5, b))))]
  rfl

variable (K : Dev nD × JIdx → ℕ)

/-- A cell whose round is over closes; -/
theorem close_cell (c : Dev nD) (j : JIdx) : iprop(recs m ρ K ∗ atPos ER (kcell (c, j)) (0 + 1) ∅ 0) ⊢ |={Set.univ}=> semVal (kcell (c, j)) 0 := by
  iintro ⟨HR, HP⟩
  ihave HI := (inv_at m ρ K c j) $$ HR
  iapply (Rounds.cell_close ER (Rd m ρ) (Set.mem_univ (K (c, j))) (fun h => h) (R := 0 + 1) (duties_later m ρ (kcell (c, j))))
  isplitl [HI] <;> iassumption
/-- so does one nothing is counted at, -/
theorem close_idle (c : Dev nD) (f : Fin 8) (hf : 2 ≤ f.val) : iprop(recs m ρ K ∗ pos (F := F) c f 0) ⊢ |={Set.univ}=> semVal (fcell c f 0) 0 := by
  iintro ⟨HR, HP⟩
  ihave HI := (inv_at m ρ K c (idx c f 0)) $$ HR
  iapply (Rounds.cell_close ER (Rd m ρ) (Set.mem_univ (K (c, idx c f 0))) (fun h => h) (R := 0) (fun r _ => duties_xfer_zero m ρ c f hf r))
  isplitl [HI] <;> iassumption
/-- and so a whole row. -/
theorem close_row (c : Dev nD) (f : Fin 8) (hf : 2 ≤ f.val) :
    iprop(recs m ρ K ∗ pos (F := F) c f 0 ∗ pos1 (F := F) c f 1 ∗ pos1 (F := F) c f 2 ∗ pos1 (F := F) c f 3)
      ⊢ |={Set.univ}=> iprop(semVal (fcell c f 0) 0 ∗ semVal (fcell c f 1) 0 ∗ semVal (fcell c f 2) 0 ∗ semVal (fcell c f 3) 0) := by
  iintro ⟨#HR, H0, H1, H2, H3⟩
  imod (close_idle m ρ K c f hf) $$ [H0] with Z0
  · isplitr; · iexact HR
    iexact H0
  imod (close_cell m ρ K c (idx c f 1)) $$ [H1] with Z1
  · isplitr; · iexact HR
    iexact H1
  imod (close_cell m ρ K c (idx c f 2)) $$ [H2] with Z2
  · isplitr; · iexact HR
    iexact H2
  imod (close_cell m ρ K c (idx c f 3)) $$ [H3] with Z3
  · isplitr; · iexact HR
    iexact H3
  imodintro
  isplitl [Z0]; · iexact Z0
  isplitl [Z1]; · iexact Z1
  isplitl [Z2]; · iexact Z2
  iexact Z3

/-- The buffers' parts, at their own places first. -/
theorem parts_A (c : Dev nD) : some_ (F := F) c MA ⊢ iprop(some_ (F := F) c (slA (pc c)) ∗ some_ (F := F) c (slA (pc c + 1)) ∗ some_ (F := F) c (slA (pc c + 2)) ∗ some_ (F := F) c (slA (pc c + 3))) :=
  (split_some c MA rA (fun _ _ => rfl) rA_disj rA_cov).trans (Entails.of_eq (four (pc c) fun t => some_ (F := F) c (slA t)))
/-- The second receive buffer in its four slots, from the device's own onwards. -/
theorem parts_B (c : Dev nD) : some_ (F := F) c MB ⊢ iprop(some_ (F := F) c (slB (zc c)) ∗ some_ (F := F) c (slB (zc c + 1)) ∗ some_ (F := F) c (slB (zc c + 2)) ∗ some_ (F := F) c (slB (zc c + 3))) :=
  (split_some c MB rA (fun _ _ => rfl) rA_disj rA_cov).trans (Entails.of_eq (four (zc c) fun t => some_ (F := F) c (slB t)))
/-- The output buffer in its four row blocks. -/
theorem parts_O (c : Dev nD) : some_ (F := F) c MO ⊢ iprop(some_ (F := F) c (slO (pc c)) ∗ some_ (F := F) c (slO (pc c + 1)) ∗ some_ (F := F) c (slO (pc c + 2)) ∗ some_ (F := F) c (slO (pc c + 3))) :=
  (split_some c MO rO (fun _ _ => rfl) rO_disj rO_cov).trans (Entails.of_eq (four (pc c) fun t => some_ (F := F) c (slO t)))
/-- The send buffer in its three slots. -/
theorem parts_P (c : Dev nD) : some_ (F := F) c MP ⊢ iprop(some_ (F := F) c (slP 1) ∗ some_ (F := F) c (slP 2) ∗ some_ (F := F) c (slP 3)) :=
  (split_some c MP rP (fun _ _ => rfl) rP_disj rP_cov).trans (Entails.of_eq (three fun t => some_ (F := F) c (MP.slice (rP t) (fun _ => rfl))))

/-- And back, whatever they hold. -/
theorem join_somes (c : Dev nD) {s : Shape} {e : EltTy} (M : Memref sig .tc .vmem s e) {T : Type} [Fintype T] [DecidableEq T] (r : T → Rect s)
    (hr : ∀ t a, (r t).stride a = 1) (hd : ∀ t t', t ≠ t' → Disjoint (r t).set (r t').set)
    (hcov : (Finset.univ : Finset T).biUnion (fun t => (r t).set) = Finset.univ) :
    (bigSep Finset.univ fun t => some_ (F := F) c (M.slice (r t) (hr t))) ⊢ some_ (F := F) c M := by
  haveI : ∀ t, Nonempty ((r t).shape.Idx → Elt F e) := fun t => ⟨fun _ => Classical.choice (val_inh (F := F) e)⟩
  iintro H
  ihave HK := (BI.bigSep_exists_pi Finset.univ (fun (t : T) (X : (r t).shape.Idx → Elt F e) => at_ (F := F) c (M.slice (r t) (hr t)) fullShare X)) $$ H
  icases HK with ⟨%X, H⟩
  iapply (join_some c M r hr hd hcov X)
  iexact H
/-- The slots of the first receive buffer put together again, -/
theorem whole_A (c : Dev nD) : iprop(some_ (F := F) c (slA (pc c)) ∗ some_ (F := F) c (slA (pc c + 1)) ∗ some_ (F := F) c (slA (pc c + 2)) ∗ some_ (F := F) c (slA (pc c + 3))) ⊢ some_ (F := F) c MA :=
  BIBase.Entails.trans (Entails.of_eq (four (pc c) fun t => some_ (F := F) c (slA t)).symm) (join_somes c MA rA (fun _ _ => rfl) rA_disj rA_cov)
/-- those of the second, -/
theorem whole_B (c : Dev nD) : iprop(some_ (F := F) c (slB (zc c)) ∗ some_ (F := F) c (slB (zc c + 1)) ∗ some_ (F := F) c (slB (zc c + 2)) ∗ some_ (F := F) c (slB (zc c + 3))) ⊢ some_ (F := F) c MB :=
  BIBase.Entails.trans (Entails.of_eq (four (zc c) fun t => some_ (F := F) c (slB t)).symm) (join_somes c MB rA (fun _ _ => rfl) rA_disj rA_cov)
/-- those of the send buffer, -/
theorem whole_P (c : Dev nD) : iprop(some_ (F := F) c (slP 1) ∗ some_ (F := F) c (slP 2) ∗ some_ (F := F) c (slP 3)) ⊢ some_ (F := F) c MP :=
  BIBase.Entails.trans (Entails.of_eq (three fun t => some_ (F := F) c (MP.slice (rP t) (fun _ => rfl))).symm) (join_somes c MP rP (fun _ _ => rfl) rP_disj rP_cov)

/-- A device's result: each block is the sum its plane peer at that place made. -/
def outAt (c : Dev nD) : S256x256.Idx → Elt F .f32 := glueO fun q => TS m ρ (mk (zc c) q)
/-- and the row blocks of the output, with their contents. -/
theorem whole_O (c : Dev nD) : iprop(at_ c (slO (pc c)) fullShare (TS m ρ c) ∗ at_ c (slO (pc c + 1)) fullShare (TS m ρ (pl c 1))
      ∗ at_ c (slO (pc c + 2)) fullShare (TS m ρ (pl c 2)) ∗ at_ c (slO (pc c + 3)) fullShare (TS m ρ (pl c 3)))
    ⊢ at_ c MO fullShare (outAt m ρ c) := by
  have h := BIBase.Entails.trans (Entails.of_eq (four (pc c) fun t => at_ (F := F) c (slO t) fullShare (TS m ρ (mk (zc c) t))).symm)
    (join_O c fun t => TS m ρ (mk (zc c) t))
  rw [mk_zc_pc] at h
  exact h

end Cert.MoE

end
-- ==== Proof.Body.lean ====
/-
# The body's obligation

What a device starts with and ends with, and the body run between them.
-/
module

public import proofs.«01_k».proof.Proof.BodyRun
public import proofs.«01_k».proof.Proof.Group

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- The one grid step. -/
abbrev t₀ : Fin cfg0.N := t0_0

/-- The credit a device starts with. -/
def creds (c : Dev nD) : sProp 𝕄 :=
  iprop(crd3 (F := F) c 0 ∗ crd3 (F := F) c 1 ∗ (crd (F := F) c 3 1 ∗ crd (F := F) c 3 2 ∗ crd (F := F) c 3 3)
    ∗ (crd (F := F) c 5 1 ∗ crd (F := F) c 5 2 ∗ crd (F := F) c 5 3) ∗ (crd (F := F) c 7 1 ∗ crd (F := F) c 7 2 ∗ crd (F := F) c 7 3))
/-- The positions at its semaphores and the tokens of its payments. -/
def ghost (c : Dev nD) : sProp 𝕄 :=
  iprop((bigSep Finset.univ fun j : JIdx => atPos ER (kcell (c, j)) 0 ∅ 0)
    ∗ (bigSep Finset.univ fun f : Fin 8 => bigSep Finset.univ fun i : Fin 4 => tok (F := F) c f i))
/-- What a device starts with beside its buffers, -/
def start (c : Dev nD) : sProp 𝕄 := iprop((∃ K, recs m ρ K ∗ ghost (F := F) c) ∗ creds (F := F) c ∗ levAts L lv)
/-- with its scratch buffers; -/
def Φ₀ (c : Dev nD) : sProp 𝕄 := iprop(start m ρ c ∗ some_ (F := F) c MP ∗ some_ (F := F) c MA ∗ some_ (F := F) c MB)
/-- and what it ends with: the buffers, and every semaphore at zero. -/
def Φ₁ (c : Dev nD) : sProp 𝕄 :=
  iprop((some_ (F := F) c MP ∗ some_ (F := F) c MA ∗ some_ (F := F) c MB) ∗ bigSep Finset.univ fun j : JIdx => semVal (kcell (c, j)) 0)

/-- What each window's staging buffer holds before and after the body, and what the device owes before (everything) and after (nothing). -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => estg m ρ c
    | ⟨3, _⟩ => outAt m ρ c
  Φ t := match t with
    | ⟨0, _⟩ => Φ₀ m ρ c
    | ⟨_ + 1, _⟩ => Φ₁ (F := F) c
  q _ := fullShare
  owed t := match t with
    | ⟨0, _⟩ => owedL c L0
    | ⟨_ + 1, _⟩ => 0

/-- Before the body the first buffer holds the activations, -/
theorem before_0 (c : Dev nD) (d) : (dats m ρ 0 c).before (0 : Fin 4) t₀ d = xstg m ρ c := by
  unfold Dat.before; rw [if_pos (show (cfg0.win (0 : Fin 4)).fetch t₀ = true from rfl)]; rfl
/-- the second the tokens' numbers, -/
theorem before_1 (c : Dev nD) (d) : (dats m ρ 0 c).before (1 : Fin 4) t₀ d = rstg m ρ c := by
  unfold Dat.before; rw [if_pos (show (cfg0.win (1 : Fin 4)).fetch t₀ = true from rfl)]; rfl
/-- the third the device's two experts. -/
theorem before_2 (c : Dev nD) (d) : (dats m ρ 0 c).before (2 : Fin 4) t₀ d = estg m ρ c := by
  unfold Dat.before; rw [if_pos (show (cfg0.win (2 : Fin 4)).fetch t₀ = true from rfl)]; rfl

/-- The pipeline's account of what is owed before the body is the whole list. -/
theorem owes_in (c : Dev nD) : (dats m ρ 0 c).owesAt () t₀.castSucc ⊢ ow c L0 := by
  unfold Dat.owesAt Pipeline.owesWithin ow
  iintro ⟨%W, -, HO⟩
  iexists W; iexact HO
/-- After the body nothing is owed. -/
theorem owes_out (c : Dev nD) : ow c [] ⊢ (dats m ρ 0 c).owesAt () t₀.succ := by
  unfold Dat.owesAt Pipeline.owesWithin ow
  iintro ⟨%W, HO⟩
  iexists W; isplitr; · ipureintro; exact fun _ _ => Or.inl trivial
  iexact HO

set_option maxHeartbeats 1000000 in
/-- The end: the parts put together, the cells closed. -/
theorem finish (K : Dev nD × JIdx → ℕ) (c : Dev nD) :
    iprop(recs m ρ K ∗ pos1 (F := F) c 0 0 ∗ pos1 (F := F) c 1 0 ∗ pos1 (F := F) c 2 1 ∗ pos1 (F := F) c 2 2 ∗ pos1 (F := F) c 2 3 ∗ pos1 (F := F) c 3 1 ∗ pos1 (F := F) c 3 2 ∗ pos1 (F := F) c 3 3 ∗ pos1 (F := F) c 4 1 ∗ pos1 (F := F) c 4 2 ∗ pos1 (F := F) c 4 3 ∗ pos1 (F := F) c 5 1 ∗ pos1 (F := F) c 5 2 ∗ pos1 (F := F) c 5 3 ∗ pos1 (F := F) c 6 1 ∗ pos1 (F := F) c 6 2 ∗ pos1 (F := F) c 6 3 ∗ pos1 (F := F) c 7 1 ∗ pos1 (F := F) c 7 2 ∗ pos1 (F := F) c 7 3 ∗ xPay m ρ c 0 1 ∗ xPay m ρ c 0 2 ∗ xPay m ρ c 0 3 ∗ at_ c (slA (pc c + 1)) fullShare (SA m ρ (pl c 1) (pc c)) ∗ at_ c (slA (pc c + 2)) fullShare (SA m ρ (pl c 2) (pc c)) ∗ at_ c (slA (pc c + 3)) fullShare (SA m ρ (pl c 3) (pc c)) ∗ xPay m ρ c 2 1 ∗ xPay m ρ c 2 2 ∗ xPay m ρ c 2 3 ∗ at_ c (slB (zc c + 1)) fullShare (SB m ρ (co c 1)) ∗ at_ c (slB (zc c + 2)) fullShare (SB m ρ (co c 2)) ∗ at_ c (slB (zc c + 3)) fullShare (SB m ρ (co c 3)) ∗ xPay m ρ c 4 1 ∗ xPay m ρ c 4 2 ∗ xPay m ρ c 4 3 ∗ at_ c (slO (pc c + 1)) fullShare (TS m ρ (pl c 1)) ∗ at_ c (slO (pc c + 2)) fullShare (TS m ρ (pl c 2)) ∗ at_ c (slO (pc c + 3)) fullShare (TS m ρ (pl c 3)) ∗ pos (F := F) c 2 0 ∗ pos (F := F) c 3 0 ∗ pos (F := F) c 4 0 ∗ pos (F := F) c 5 0 ∗ pos (F := F) c 6 0 ∗ pos (F := F) c 7 0 ∗ some_ (F := F) c (slA (pc c)))
      ⊢ |={Set.univ}=> iprop(Φ₁ (F := F) c ∗ at_ c MO fullShare (outAt m ρ c)) := by
  unfold Φ₁
  rw [all_cells c]
  iintro ⟨#HR, Q0, Q1, Q2_1, Q2_2, Q2_3, Q3_1, Q3_2, Q3_3, Q4_1, Q4_2, Q4_3, Q5_1, Q5_2, Q5_3, Q6_1, Q6_2, Q6_3, Q7_1, Q7_2, Q7_3, P1, P2, P3, A1, A2, A3, S1, S2, S3, B1, B2, B3, U1, U2, U3, O1, O2, O3, Q2_0, Q3_0, Q4_0, Q5_0, Q6_0, Q7_0, A0⟩
  imod (close_cell m ρ K c (idx c 0 0)) $$ [Q0] with Z0
  · isplitr; · iexact HR
    iexact Q0
  imod (close_cell m ρ K c (idx c 1 0)) $$ [Q1] with Z1
  · isplitr; · iexact HR
    iexact Q1
  imod (close_row m ρ K c 2 (by decide)) $$ [Q2_0 Q2_1 Q2_2 Q2_3] with Z2
  · isplitr; · iexact HR
    isplitl [Q2_0]; · iexact Q2_0
    isplitl [Q2_1]; · iexact Q2_1
    isplitl [Q2_2]; · iexact Q2_2
    iexact Q2_3
  imod (close_row m ρ K c 3 (by decide)) $$ [Q3_0 Q3_1 Q3_2 Q3_3] with Z3
  · isplitr; · iexact HR
    isplitl [Q3_0]; · iexact Q3_0
    isplitl [Q3_1]; · iexact Q3_1
    isplitl [Q3_2]; · iexact Q3_2
    iexact Q3_3
  imod (close_row m ρ K c 4 (by decide)) $$ [Q4_0 Q4_1 Q4_2 Q4_3] with Z4
  · isplitr; · iexact HR
    isplitl [Q4_0]; · iexact Q4_0
    isplitl [Q4_1]; · iexact Q4_1
    isplitl [Q4_2]; · iexact Q4_2
    iexact Q4_3
  imod (close_row m ρ K c 5 (by decide)) $$ [Q5_0 Q5_1 Q5_2 Q5_3] with Z5
  · isplitr; · iexact HR
    isplitl [Q5_0]; · iexact Q5_0
    isplitl [Q5_1]; · iexact Q5_1
    isplitl [Q5_2]; · iexact Q5_2
    iexact Q5_3
  imod (close_row m ρ K c 6 (by decide)) $$ [Q6_0 Q6_1 Q6_2 Q6_3] with Z6
  · isplitr; · iexact HR
    isplitl [Q6_0]; · iexact Q6_0
    isplitl [Q6_1]; · iexact Q6_1
    isplitl [Q6_2]; · iexact Q6_2
    iexact Q6_3
  imod (close_row m ρ K c 7 (by decide)) $$ [Q7_0 Q7_1 Q7_2 Q7_3] with Z7
  · isplitr; · iexact HR
    isplitl [Q7_0]; · iexact Q7_0
    isplitl [Q7_1]; · iexact Q7_1
    isplitl [Q7_2]; · iexact Q7_2
    iexact Q7_3
  ihave P1 := (show xPay m ρ c 0 1 ⊢ some_ (F := F) c (slP 1) from to_some c (slP 1) (SA m ρ c (pc c + 1))) $$ P1
  ihave A1 := (to_some c (slA (pc c + 1)) (SA m ρ (pl c 1) (pc c))) $$ A1
  ihave B1 := (to_some c (slB (zc c + 1)) (SB m ρ (co c 1))) $$ B1
  ihave P2 := (show xPay m ρ c 0 2 ⊢ some_ (F := F) c (slP 2) from to_some c (slP 2) (SA m ρ c (pc c + 2))) $$ P2
  ihave A2 := (to_some c (slA (pc c + 2)) (SA m ρ (pl c 2) (pc c))) $$ A2
  ihave B2 := (to_some c (slB (zc c + 2)) (SB m ρ (co c 2))) $$ B2
  ihave P3 := (show xPay m ρ c 0 3 ⊢ some_ (F := F) c (slP 3) from to_some c (slP 3) (SA m ρ c (pc c + 3))) $$ P3
  ihave A3 := (to_some c (slA (pc c + 3)) (SA m ρ (pl c 3) (pc c))) $$ A3
  ihave B3 := (to_some c (slB (zc c + 3)) (SB m ρ (co c 3))) $$ B3
  ihave B0 := (show iprop(xPay m ρ c 2 1 ∗ xPay m ρ c 2 2 ∗ xPay m ρ c 2 3) ⊢ at_ c (slB (zc c)) fullShare (SB m ρ c) from three_join c (slB (zc c)) (SB m ρ c)) $$ [S1 S2 S3]
  · isplitl [S1]; · iexact S1
    isplitl [S2]; · iexact S2
    iexact S3
  ihave B0 := (to_some c (slB (zc c)) (SB m ρ c)) $$ B0
  ihave O0 := (show iprop(xPay m ρ c 4 1 ∗ xPay m ρ c 4 2 ∗ xPay m ρ c 4 3) ⊢ at_ c (slO (pc c)) fullShare (TS m ρ c) from three_join c (slO (pc c)) (TS m ρ c)) $$ [U1 U2 U3]
  · isplitl [U1]; · iexact U1
    isplitl [U2]; · iexact U2
    iexact U3
  ihave HP := (whole_P c) $$ [P1 P2 P3]
  · isplitl [P1]; · iexact P1
    isplitl [P2]; · iexact P2
    iexact P3
  ihave HA := (whole_A c) $$ [A0 A1 A2 A3]
  · isplitl [A0]; · iexact A0
    isplitl [A1]; · iexact A1
    isplitl [A2]; · iexact A2
    iexact A3
  ihave HB := (whole_B c) $$ [B0 B1 B2 B3]
  · isplitl [B0]; · iexact B0
    isplitl [B1]; · iexact B1
    isplitl [B2]; · iexact B2
    iexact B3
  ihave HU := (whole_O m ρ c) $$ [O0 O1 O2 O3]
  · isplitl [O0]; · iexact O0
    isplitl [O1]; · iexact O1
    isplitl [O2]; · iexact O2
    iexact O3
  imodintro
  isplitr [HU]
  · isplitl [HP HA HB]
    · isplitl [HP]; · iexact HP
      isplitl [HA]; · iexact HA
      iexact HB
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact Z7
  iexact HU

/-- All duty tokens of a device, one by one. -/
theorem toks_list (c : Dev nD) : (bigSep Finset.univ fun f : Fin 8 => bigSep Finset.univ fun i : Fin 4 => tok (F := F) c f i)
    ⊢ iprop(tok (F := F) c 0 1 ∗ tok (F := F) c 0 2 ∗ tok (F := F) c 0 3 ∗ tok (F := F) c 1 1 ∗ tok (F := F) c 1 2 ∗ tok (F := F) c 1 3 ∗ tok (F := F) c 2 1 ∗ tok (F := F) c 2 2 ∗ tok (F := F) c 2 3 ∗ tok (F := F) c 3 1 ∗ tok (F := F) c 3 2 ∗ tok (F := F) c 3 3 ∗ tok (F := F) c 4 1 ∗ tok (F := F) c 4 2 ∗ tok (F := F) c 4 3 ∗ tok (F := F) c 5 1 ∗ tok (F := F) c 5 2 ∗ tok (F := F) c 5 3 ∗ tok (F := F) c 6 1 ∗ tok (F := F) c 6 2 ∗ tok (F := F) c 6 3 ∗ tok (F := F) c 7 1 ∗ tok (F := F) c 7 2 ∗ tok (F := F) c 7 3) := by
  rw [eight]; simp only [four0]
  iintro ⟨⟨-, T0_1, T0_2, T0_3⟩, ⟨-, T1_1, T1_2, T1_3⟩, ⟨-, T2_1, T2_2, T2_3⟩, ⟨-, T3_1, T3_2, T3_3⟩, ⟨-, T4_1, T4_2, T4_3⟩, ⟨-, T5_1, T5_2, T5_3⟩, ⟨-, T6_1, T6_2, T6_3⟩, ⟨-, T7_1, T7_2, T7_3⟩⟩
  isplitl [T0_1]; · iexact T0_1
  isplitl [T0_2]; · iexact T0_2
  isplitl [T0_3]; · iexact T0_3
  isplitl [T1_1]; · iexact T1_1
  isplitl [T1_2]; · iexact T1_2
  isplitl [T1_3]; · iexact T1_3
  isplitl [T2_1]; · iexact T2_1
  isplitl [T2_2]; · iexact T2_2
  isplitl [T2_3]; · iexact T2_3
  isplitl [T3_1]; · iexact T3_1
  isplitl [T3_2]; · iexact T3_2
  isplitl [T3_3]; · iexact T3_3
  isplitl [T4_1]; · iexact T4_1
  isplitl [T4_2]; · iexact T4_2
  isplitl [T4_3]; · iexact T4_3
  isplitl [T5_1]; · iexact T5_1
  isplitl [T5_2]; · iexact T5_2
  isplitl [T5_3]; · iexact T5_3
  isplitl [T6_1]; · iexact T6_1
  isplitl [T6_2]; · iexact T6_2
  isplitl [T6_3]; · iexact T6_3
  isplitl [T7_1]; · iexact T7_1
  isplitl [T7_2]; · iexact T7_2
  iexact T7_3

/-- What the body starts from. -/
def bodyPre (c : Dev nD) : sProp 𝕄 :=
  iprop(Φ₀ m ρ c ∗ (dats m ρ 0 c).owesAt () t₀.castSucc
    ∗ (∃ d, at_ c MX fullShare ((dats m ρ 0 c).before (0 : Fin 4) t₀ d)) ∗ (∃ d, at_ c MR fullShare ((dats m ρ 0 c).before (1 : Fin 4) t₀ d))
    ∗ (∃ d, at_ c ME fullShare ((dats m ρ 0 c).before (2 : Fin 4) t₀ d)) ∗ (∃ d, at_ c MO fullShare ((dats m ρ 0 c).before (3 : Fin 4) t₀ d)))
/-- What the body leaves. -/
def bodyPost (c : Dev nD) : sProp 𝕄 :=
  iprop(Φ₁ (F := F) c ∗ (dats m ρ 0 c).owesAt () t₀.succ ∗ at_ c MX fullShare (xstg m ρ c) ∗ at_ c MR fullShare (rstg m ρ c) ∗ at_ c ME fullShare (estg m ρ c) ∗ at_ c MO fullShare (outAt m ρ c))

/-- A run may begin with an update. -/
theorem run_fupd {α : Type} {Q : α → sProp 𝕄} (c : Dev nD) (p : Prog (TpuEff nD τ sig (Elt F) Λ₀ .tc) α) :
    Run c p (fun a => iprop(|={Set.univ}=> Q a)) ⊢ Run c p Q := wp_fupd _ _ _ _ _

set_option maxHeartbeats 2000000 in
/-- The body from what a device starts with to what it ends with. -/
theorem sound_body (c : Dev nD) : bodyPre m ρ c ⊢ Run c (cc0_body MX (Memref.isWhole_whole _) MR (Memref.isWhole_whole _) ME (Memref.isWhole_whole _) MO (Memref.isWhole_whole _) MP (Memref.isWhole_whole _) MA (Memref.isWhole_whole _) MB (Memref.isWhole_whole _) cc0_scratch3 cc0_scratch4 cc0_scratch5 cc0_scratch6 cc0_scratch7 cc0_scratch8 cc0_scratch9) (fun _ => bodyPost m ρ c) := by
  unfold bodyPre Φ₀ start ghost creds
  rw [all_cells c]
  iintro ⟨⟨⟨⟨%K, #HR, HPos, HTok⟩, ⟨C0, C1, ⟨C3_1, C3_2, C3_3⟩, ⟨C5_1, C5_2, C5_3⟩, C7_1, C7_2, C7_3⟩, #HL⟩, HP, HA, HB⟩, HO, ⟨%d0, HX⟩, ⟨%d1, HI⟩, ⟨%d2, HE⟩, ⟨%d3, HU⟩⟩
  rw [before_0, before_1, before_2]
  icases HPos with ⟨Q0, Q1, ⟨Q2_0, Q2_1, Q2_2, Q2_3⟩, ⟨Q3_0, Q3_1, Q3_2, Q3_3⟩, ⟨Q4_0, Q4_1, Q4_2, Q4_3⟩, ⟨Q5_0, Q5_1, Q5_2, Q5_3⟩, ⟨Q6_0, Q6_1, Q6_2, Q6_3⟩, ⟨Q7_0, Q7_1, Q7_2, Q7_3⟩⟩
  ihave HT := (toks_list c) $$ HTok
  icases HT with ⟨T0_1, T0_2, T0_3, T1_1, T1_2, T1_3, T2_1, T2_2, T2_3, T3_1, T3_2, T3_3, T4_1, T4_2, T4_3, T5_1, T5_2, T5_3, T6_1, T6_2, T6_3, T7_1, T7_2, T7_3⟩
  ihave HO := (owes_in m ρ c) $$ HO
  ihave HP := (parts_P c) $$ HP
  icases HP with ⟨P1, P2, P3⟩
  ihave HA := (parts_A c) $$ HA
  icases HA with ⟨A0, A1, A2, A3⟩
  ihave HB := (parts_B c) $$ HB
  icases HB with ⟨B0, B1, B2, B3⟩
  ihave HU := (to_some c MO _) $$ HU
  ihave HU := (parts_O c) $$ HU
  icases HU with ⟨O0, O1, O2, O3⟩
  iapply (run_fupd c _)
  iapply (run_body m ρ K c _)
  isplitr; · iexact HR
  isplitr; · iexact HL
  isplitl [HO]; · iexact HO
  isplitl [T0_1]; · iexact T0_1
  isplitl [T0_2]; · iexact T0_2
  isplitl [T0_3]; · iexact T0_3
  isplitl [T1_1]; · iexact T1_1
  isplitl [T1_2]; · iexact T1_2
  isplitl [T1_3]; · iexact T1_3
  isplitl [T2_1]; · iexact T2_1
  isplitl [T2_2]; · iexact T2_2
  isplitl [T2_3]; · iexact T2_3
  isplitl [T3_1]; · iexact T3_1
  isplitl [T3_2]; · iexact T3_2
  isplitl [T3_3]; · iexact T3_3
  isplitl [T4_1]; · iexact T4_1
  isplitl [T4_2]; · iexact T4_2
  isplitl [T4_3]; · iexact T4_3
  isplitl [T5_1]; · iexact T5_1
  isplitl [T5_2]; · iexact T5_2
  isplitl [T5_3]; · iexact T5_3
  isplitl [T6_1]; · iexact T6_1
  isplitl [T6_2]; · iexact T6_2
  isplitl [T6_3]; · iexact T6_3
  isplitl [T7_1]; · iexact T7_1
  isplitl [T7_2]; · iexact T7_2
  isplitl [T7_3]; · iexact T7_3
  isplitl [C0]; · iexact C0
  isplitl [C1]; · iexact C1
  isplitl [C3_1]; · iexact C3_1
  isplitl [C3_2]; · iexact C3_2
  isplitl [C3_3]; · iexact C3_3
  isplitl [C5_1]; · iexact C5_1
  isplitl [C5_2]; · iexact C5_2
  isplitl [C5_3]; · iexact C5_3
  isplitl [C7_1]; · iexact C7_1
  isplitl [C7_2]; · iexact C7_2
  isplitl [C7_3]; · iexact C7_3
  isplitl [Q0]; · iexact Q0
  isplitl [Q1]; · iexact Q1
  isplitl [Q2_1]; · iexact Q2_1
  isplitl [Q2_2]; · iexact Q2_2
  isplitl [Q2_3]; · iexact Q2_3
  isplitl [Q3_1]; · iexact Q3_1
  isplitl [Q3_2]; · iexact Q3_2
  isplitl [Q3_3]; · iexact Q3_3
  isplitl [Q4_1]; · iexact Q4_1
  isplitl [Q4_2]; · iexact Q4_2
  isplitl [Q4_3]; · iexact Q4_3
  isplitl [Q5_1]; · iexact Q5_1
  isplitl [Q5_2]; · iexact Q5_2
  isplitl [Q5_3]; · iexact Q5_3
  isplitl [Q6_1]; · iexact Q6_1
  isplitl [Q6_2]; · iexact Q6_2
  isplitl [Q6_3]; · iexact Q6_3
  isplitl [Q7_1]; · iexact Q7_1
  isplitl [Q7_2]; · iexact Q7_2
  isplitl [Q7_3]; · iexact Q7_3
  isplitl [HX]; · iexact HX
  isplitl [HI]; · iexact HI
  isplitl [HE]; · iexact HE
  isplitl [P1]; · iexact P1
  isplitl [P2]; · iexact P2
  isplitl [P3]; · iexact P3
  isplitl [A1]; · iexact A1
  isplitl [A2]; · iexact A2
  isplitl [A3]; · iexact A3
  isplitl [B0]; · iexact B0
  isplitl [B1]; · iexact B1
  isplitl [B2]; · iexact B2
  isplitl [B3]; · iexact B3
  isplitl [O0]; · iexact O0
  isplitl [O1]; · iexact O1
  isplitl [O2]; · iexact O2
  isplitl [O3]; · iexact O3
  iintro ⟨HO, HX, HI, HE, Q0, Q1, Q2_1, Q2_2, Q2_3, Q3_1, Q3_2, Q3_3, Q4_1, Q4_2, Q4_3, Q5_1, Q5_2, Q5_3, Q6_1, Q6_2, Q6_3, Q7_1, Q7_2, Q7_3, P1, P2, P3, A1, A2, A3, S1, S2, S3, B1, B2, B3, U1, U2, U3, O1, O2, O3⟩
  imod (finish m ρ K c) $$ [Q0 Q1 Q2_1 Q2_2 Q2_3 Q3_1 Q3_2 Q3_3 Q4_1 Q4_2 Q4_3 Q5_1 Q5_2 Q5_3 Q6_1 Q6_2 Q6_3 Q7_1 Q7_2 Q7_3 P1 P2 P3 A1 A2 A3 S1 S2 S3 B1 B2 B3 U1 U2 U3 O1 O2 O3 Q2_0 Q3_0 Q4_0 Q5_0 Q6_0 Q7_0 A0] with ⟨HF, HM⟩
  · isplitr; · iexact HR
    isplitl [Q0]; · iexact Q0
    isplitl [Q1]; · iexact Q1
    isplitl [Q2_1]; · iexact Q2_1
    isplitl [Q2_2]; · iexact Q2_2
    isplitl [Q2_3]; · iexact Q2_3
    isplitl [Q3_1]; · iexact Q3_1
    isplitl [Q3_2]; · iexact Q3_2
    isplitl [Q3_3]; · iexact Q3_3
    isplitl [Q4_1]; · iexact Q4_1
    isplitl [Q4_2]; · iexact Q4_2
    isplitl [Q4_3]; · iexact Q4_3
    isplitl [Q5_1]; · iexact Q5_1
    isplitl [Q5_2]; · iexact Q5_2
    isplitl [Q5_3]; · iexact Q5_3
    isplitl [Q6_1]; · iexact Q6_1
    isplitl [Q6_2]; · iexact Q6_2
    isplitl [Q6_3]; · iexact Q6_3
    isplitl [Q7_1]; · iexact Q7_1
    isplitl [Q7_2]; · iexact Q7_2
    isplitl [Q7_3]; · iexact Q7_3
    isplitl [P1]; · iexact P1
    isplitl [P2]; · iexact P2
    isplitl [P3]; · iexact P3
    isplitl [A1]; · iexact A1
    isplitl [A2]; · iexact A2
    isplitl [A3]; · iexact A3
    isplitl [S1]; · iexact S1
    isplitl [S2]; · iexact S2
    isplitl [S3]; · iexact S3
    isplitl [B1]; · iexact B1
    isplitl [B2]; · iexact B2
    isplitl [B3]; · iexact B3
    isplitl [U1]; · iexact U1
    isplitl [U2]; · iexact U2
    isplitl [U3]; · iexact U3
    isplitl [O1]; · iexact O1
    isplitl [O2]; · iexact O2
    isplitl [O3]; · iexact O3
    isplitl [Q2_0]; · iexact Q2_0
    isplitl [Q3_0]; · iexact Q3_0
    isplitl [Q4_0]; · iexact Q4_0
    isplitl [Q5_0]; · iexact Q5_0
    isplitl [Q6_0]; · iexact Q6_0
    isplitl [Q7_0]; · iexact Q7_0
    iexact A0
  ihave HO := (owes_out m ρ c) $$ HO
  imodintro
  unfold bodyPost
  isplitl [HF]; · iexact HF
  isplitl [HO]; · iexact HO
  isplitl [HX]; · iexact HX
  isplitl [HI]; · iexact HI
  isplitl [HE]; · iexact HE
  iexact HM

/-- The library's obligation. -/
theorem body_obligation (c : Dev nD) : BodyObligation (dats m ρ 0 c) (defs₀ (F := F)) 𝒱₀ () Set.univ := fun t => by
  rw [fin_N0 t]
  rw [bigSep_W0, bigSep_W0]
  exact sound_body m ρ c

end Cert.MoE

end
-- ==== Proof.Deal.lean ====
/-
# The launch: cells and tokens

Which cells there are, who holds which token, and the invariants made for all devices at once.
-/
module

public import proofs.«01_k».proof.Proof.Body

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## Cells and tokens -/

/-- The semaphores of the protocol are apart from the pipeline's. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The protocol's semaphores are distinct, -/
theorem csem_injective : Function.Injective csem := by
  rintro (a | a | ⟨k, j⟩) (b | b | ⟨k', j'⟩) h
  · rfl
  · cases a; cases b; exact absurd h (by decide)
  · exact absurd h (by simp)
  · cases a; cases b; exact absurd h (by decide)
  · rfl
  · exact absurd h (by simp)
  · exact absurd h (by simp)
  · exact absurd h (by simp)
  · have h' : dsem k j = dsem k' j' := SemLoc.dma.inj h
    have hk : k = k' := by rw [← rowOf_dsem k j, h', rowOf_dsem]
    have hj : j = j' := by rw [← posOf_dsem k j, h', posOf_dsem]
    rw [hk, hj]
/-- so are its cells. -/
theorem kcell_injective : Function.Injective (kcell : Dev nD × JIdx → GSem nD τ sig) := by
  rintro ⟨c, j⟩ ⟨c', j'⟩ h
  have h1 : c = c' := congrArg (fun g : GSem nD τ sig => g.1.1) h
  have h2 : j = j' := csem_injective (congrArg Prod.snd h)
  rw [h1, h2]
/-- All cells of the protocol. -/
def allCells : Finset (GSem nD τ sig) := Finset.univ.map ⟨kcell, kcell_injective⟩

/-- The family of a semaphore. -/
def famOf : JIdx → Fin 8
  | .inl _ => 0
  | .inr (.inl _) => 1
  | .inr (.inr kj) => ⟨kj.1.val + 2, by omega⟩
/-- The family of an indexed cell. -/
theorem famOf_idx (c : Dev nD) (f : Fin 8) (i : Fin 4) : famOf (idx c f i) = f := by fin_cases f <;> rfl
theorem f4_add_left : ∀ a b d : Fin 4, a + b = a + d → b = d := by decide
/-- On the rows a place is counted at one semaphore only. -/
theorem idx_place (c : Dev nD) (f : Fin 8) (hf : 2 ≤ f.val) (i j : Fin 4) (h : idx c f i = idx c f j) : i = j := by
  have h' := csem_xfer c f hf j
  rw [← h, csem_xfer c f hf i] at h'
  have hj := congrArg posOf (SemLoc.dma.inj h')
  rw [posOf_dsem, posOf_dsem] at hj
  exact f4_add_left _ _ _ hj

/-- A token by the cell it pays and the place it is paid from. -/
abbrev tokOf (x : Fin 8 × Fin 4 × Dev nD) : GSem nD τ sig × ℕ × Fin 4 := (fcell x.2.2 x.1 x.2.1, 0, x.2.1)
/-- Distinct duties have distinct tokens. -/
theorem tokOf_injective : Function.Injective tokOf := by
  rintro ⟨f, i, c⟩ ⟨f', i', c'⟩ h
  have hi : i = i' := congrArg (fun x : GSem nD τ sig × ℕ × Fin 4 => x.2.2) h
  have hk := kcell_injective (congrArg (fun x : GSem nD τ sig × ℕ × Fin 4 => x.1) h)
  have hc : c = c' := congrArg Prod.fst hk
  subst hi hc
  have hf : f = f' := by rw [← famOf_idx c f i, ← famOf_idx c f' i]; exact congrArg famOf (congrArg Prod.snd hk)
  rw [hf]
/-- All tokens of the protocol. -/
def allToks : Finset (GSem nD τ sig × ℕ × Fin 4) := Finset.univ.map ⟨tokOf, tokOf_injective⟩

/-- The ghost state at launch. -/
def u₀ : UU := (initOf (Pipeline.cells cfgs cellOf_inj) (Pipeline.launchToks cfgs cellOf_inj), initOf allCells allToks)

/-- What the launch deals a device: its cells' states, its positions, the tokens of the payments it makes. -/
def G (c : Dev nD) : sProp 𝕄 :=
  iprop((bigSep Finset.univ fun j : JIdx => roundState ER (Rd m ρ) (kcell (c, j)) 0)
    ∗ (bigSep Finset.univ fun j : JIdx => reached ER (kcell (c, j)) 0) ∗ ghost (F := F) c)
/-- After the invariants are made. -/
def G' (c : Dev nD) : sProp 𝕄 := iprop(∃ K, recs m ρ K ∗ ghost (F := F) c)

omit [FloatOps F] in
/-- The tokens dealt to their payers. -/
theorem toks_dealt : (bigSep allToks fun x => (dutyTok ER x.1 x.2.1 x.2.2 : sProp 𝕄))
    = bigSep Finset.univ fun c : Dev nD => bigSep Finset.univ fun f : Fin 8 => bigSep Finset.univ fun i : Fin 4 => tok (F := F) c f i := by
  unfold allToks
  rw [bigSep_map, bigSep_univ_prod, bigSep_univ_comm (fun (c : Dev nD) (f : Fin 8) => bigSep Finset.univ fun i : Fin 4 => tok (F := F) c f i)]
  refine bigSep_congr fun f _ => ?_
  rw [bigSep_univ_prod, bigSep_univ_comm (fun (c : Dev nD) (i : Fin 4) => tok (F := F) c f i)]
  exact bigSep_congr fun i _ => bigSep_univ_equiv (pay f i) _

/-- The ghost state at launch is dealt out to the devices. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun j : JIdx => Φ (kcell (c, j)) := by
    unfold allCells; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq (toks_dealt (F := F))) $$ Htok
  unfold G ghost; simp only [bigSep_sep']
  isplitl [Hst]; · iexact Hst
  isplitl [Hr]; · iexact Hr
  isplitl [Hat]; · iexact Hat
  iexact Htok

/-- The barrier's counter is zero at launch. -/
theorem unscopedSems0_eq (c : Dev nD) : (unscopedSems0 c : sProp 𝕄) = semVal (kcell (c, .inl ())) 0 := by
  unfold unscopedSems0; rw [bigSep_eq_bigSepL_of_eq [SemLoc.reg barS] (by decide) (by decide)]; rfl
/-- All counters of a device, at zero. -/
theorem sems0_eq (c : Dev nD) : (bigSep Finset.univ fun j : JIdx => semVal (kcell (c, j)) 0 : sProp 𝕄)
    = iprop(unscopedSems0 c ∗ Pipeline.ownSems0 (Ix := Unit) (Name := ℕ) (U := UU) (Lvl := ℕ) (Val := Elt F) (τ := τ) osem c) := by
  have e : (bigSep Finset.univ fun a : Unit => (semVal (kcell (c, .inl a)) 0 : sProp 𝕄)) = semVal (kcell (c, .inl ())) 0 := bigSep_univ_of_subsingleton ()
  rw [unscopedSems0_eq, bigSep_univ_sum, e]; rfl

/-- The invariants of one device's cells are opened from its counters. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : JIdx => iprop(∃ κ : ℕ, cellInv ER (Rd m ρ) κ (kcell (c, j))))
          ∗ (bigSep Finset.univ fun j : JIdx => reached ER (kcell (c, j)) 0) ∗ ghost (F := F) c) := by
  unfold G
  iintro ⟨Hos, Hus, Hst, Hr, Hg⟩
  ihave Hv := (Entails.of_eq (sems0_eq (F := F) c).symm) $$ [Hos Hus]
  · isplitl [Hus] <;> iassumption
  imod (show iprop((bigSep Finset.univ fun j : JIdx => semVal (kcell (c, j)) 0) ∗ bigSep Finset.univ fun j : JIdx => roundState ER (Rd m ρ) (kcell (c, j)) 0)
      ⊢ (|={Set.univ}=> bigSep Finset.univ fun j => iprop(∃ κ : ℕ, cellInv ER (Rd m ρ) κ (kcell (c, j))) : sProp 𝕄) from by
        rw [← bigSep_sep']
        exact BIBase.Entails.trans (bigSep_mono fun j _ => (Rounds.body_intro ER (Rd m ρ) (kcell (c, j))).trans inv_alloc) (bigSep_fupd _ _)) $$ [Hv Hst] with Hinv
  · isplitl [Hv] <;> iassumption
  imodintro
  isplitl [Hinv]; · iexact Hinv
  isplitl [Hr]; · iexact Hr
  iexact Hg

omit [FloatOps F] in
/-- A persistent fact is at hand in every conjunct. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' parts, put in the order in which the launch hands them over. -/
theorem regroup :
    (bigSep Finset.univ fun c : Dev nD => iprop((bigSep Finset.univ fun j : JIdx => iprop(∃ κ : ℕ, cellInv ER (Rd m ρ) κ (kcell (c, j))))
          ∗ (bigSep Finset.univ fun j : JIdx => reached ER (kcell (c, j)) 0) ∗ ghost (F := F) c) : sProp 𝕄)
      ⊢ bigSep Finset.univ (G' m ρ) := by
  rw [bigSep_sep', bigSep_sep', ← bigSep_univ_prod (fun cj : Dev nD × JIdx => iprop(∃ κ : ℕ, cellInv ER (Rd m ρ) κ (kcell cj))),
    ← bigSep_univ_prod (fun cj : Dev nD × JIdx => (reached ER (kcell cj) 0 : sProp 𝕄))]
  iintro ⟨HI, HR, Hg⟩
  ihave HK := (BI.bigSep_exists_pi Finset.univ (fun (cj : Dev nD × JIdx) (κ : ℕ) => (cellInv ER (Rd m ρ) κ (kcell cj) : sProp 𝕄))) $$ HI
  icases HK with ⟨%K, HI⟩
  iapply (with_persistent (R := recs m ρ K) (Φ := ghost (F := F)) fun c _ => show _ ⊢ G' m ρ c from by
    unfold G'; iintro H; iexists K; iexact H)
  isplitl [HI HR]
  · unfold recs; isplitl [HI] <;> iassumption
  · iexact Hg

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  BIBase.Entails.trans (BIBase.Entails.trans (bigSep_mono fun c _ => core_alloc m ρ c) (bigSep_fupd _ _)) (BI.fupd_mono (regroup m ρ))

end Cert.MoE

end
-- ==== Proof.Credit.lean ====
/-
# The launch: credit

What a device is owed at the start, from what all devices owe.
-/
module

public import proofs.«01_k».proof.Proof.Deal

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The credit at launch -/

/-- What a device owes at launch. -/
abbrev O₀ (c : Dev nD) : CellTallies nD τ sig Unit := owedL c L0

/-- What all devices together owe a cell for one kind of payment. -/
theorem pay_sum (c : Dev nD) (j : JIdx) (f : Fin 8) (i : Fin 4) :
    ∑ d : Dev nD, (tallyAt (fcell (pay f i d) f i) () (amt f) : CellTallies nD τ sig Unit) (kcell (c, j)) () = if idx c f i = j then amt f else 0 := by
  have key (d : Dev nD) : (tallyAt (fcell d f i) () (amt f) : CellTallies nD τ sig Unit) (kcell (c, j)) () = if d = c then (if idx c f i = j then amt f else 0) else 0 := by
    rw [tallyAt_apply]
    by_cases hd : d = c
    · subst hd
      rw [if_pos rfl]
      refine if_congr ⟨fun h => ?_, fun h => ⟨?_, rfl⟩⟩ rfl rfl
      · exact (congrArg Prod.snd (kcell_injective h.1)).symm
      · rw [← h]
    · rw [if_neg hd, if_neg fun h => hd (congrArg Prod.fst (kcell_injective h.1)).symm]
  refine (Equiv.sum_comp (pay f i) (fun d => (tallyAt (fcell d f i) () (amt f) : CellTallies nD τ sig Unit) (kcell (c, j)) ())).trans ?_
  rw [Finset.sum_congr rfl fun d _ => key d, Finset.sum_ite_eq' Finset.univ c, if_pos (Finset.mem_univ c)]

/-- What all devices together owe a cell: the payments of its family and place. -/
theorem owed_sum (c : Dev nD) (j : JIdx) (l : List (Fin 8 × Fin 4)) :
    ∑ d : Dev nD, owedL d l (kcell (c, j)) () = (l.map fun x => if idx c x.1 x.2 = j then amt x.1 else 0).sum := by
  induction l with
  | nil => exact Finset.sum_eq_zero fun d _ => rfl
  | cons x l ih =>
    have e : ∑ d : Dev nD, owedL d (x :: l) (kcell (c, j)) ()
        = ∑ d : Dev nD, (owedL d l (kcell (c, j)) () + (tallyAt (fcell (pay x.1 x.2 d) x.1 x.2) () (amt x.1) : CellTallies nD τ sig Unit) (kcell (c, j)) ()) := rfl
    rw [e, Finset.sum_add_distrib, ih, pay_sum, Nat.add_comm]
    rfl

/-- Two semaphores of the list are one exactly if their families are and, on the rows, their places. -/
theorem idx_iff (c : Dev nD) (f g : Fin 8) (i j : Fin 4) : idx c f i = idx c g j ↔ f = g ∧ (f.val < 2 ∨ i = j) := by
  constructor
  · intro h
    have hf : f = g := by rw [← famOf_idx c f i, h, famOf_idx]
    subst hf
    refine ⟨rfl, ?_⟩
    by_cases h2 : f.val < 2
    · exact .inl h2
    · exact .inr (idx_place c f (by omega) i j h)
  · rintro ⟨rfl, h | rfl⟩
    · rcases (show ∀ f : Fin 8, f.val < 2 → f = 0 ∨ f = 1 by decide) f h with rfl | rfl <;> rfl
    · rfl

omit [FloatOps F] in
/-- The credit that the launch pays into one cell is the sum of what is owed there. -/
theorem launch_at (c : Dev nD) (f : Fin 8) (i : Fin 4) (n : ℕ)
    (h : (L0.map fun x => if x.1 = f ∧ (x.1.val < 2 ∨ x.2 = i) then amt x.1 else 0).sum = n) :
    tallyOn (fcell c f i) (launchCredit (Pipeline.owing O₀) 0 (fcell c f i)) = (tallyAt (fcell c f i) () n : CellTallies nD τ sig Unit) := by
  unfold tallyAt; refine congrArg _ (Finsupp.ext fun u => ?_); cases u
  rw [Pipeline.launchCredit_owing, Finsupp.single_eq_same, ← h]
  exact (owed_sum c (idx c f i) L0).trans (congrArg List.sum (List.map_congr_left fun x _ => if_congr (idx_iff c x.1 f x.2 i) rfl rfl))

/-- The first barrier's cell is owed three units, -/
theorem sum_0 : (L0.map fun x => if x.1 = 0 ∧ (x.1.val < 2 ∨ x.2 = 0) then amt x.1 else 0).sum = 3 := by
  simp [amt]
/-- so is the second's; -/
theorem sum_1 : (L0.map fun x => if x.1 = 1 ∧ (x.1.val < 2 ∨ x.2 = 0) then amt x.1 else 0).sum = 3 := by
  simp [amt]
/-- each receive cell of the first exchange is owed one block, -/
theorem sum_3 (i : Fin 4) (hi : i ≠ 0) : (L0.map fun x => if x.1 = 3 ∧ (x.1.val < 2 ∨ x.2 = i) then amt x.1 else 0).sum = amt 3 := by
  fin_cases i
  · exact absurd rfl hi
  all_goals simp
/-- of the second exchange likewise, -/
theorem sum_5 (i : Fin 4) (hi : i ≠ 0) : (L0.map fun x => if x.1 = 5 ∧ (x.1.val < 2 ∨ x.2 = i) then amt x.1 else 0).sum = amt 5 := by
  fin_cases i
  · exact absurd rfl hi
  all_goals simp
/-- and of the third. -/
theorem sum_7 (i : Fin 4) (hi : i ≠ 0) : (L0.map fun x => if x.1 = 7 ∧ (x.1.val < 2 ∨ x.2 = i) then amt x.1 else 0).sum = amt 7 := by
  fin_cases i
  · exact absurd rfl hi
  all_goals simp

/-- The launch's credit gives a device the credits of all its cells. -/
theorem creds_intro (c : Dev nD) : (Pipeline.launchCred O₀ c : sProp 𝕄) ⊢ creds (F := F) c := by
  have h : (Pipeline.launchCred O₀ c : sProp 𝕄) ⊢ bigSep Finset.univ fun j : JIdx => cred (tallyOn (kcell (c, j)) (launchCredit (Pipeline.owing O₀) 0 (kcell (c, j)))) := by
    unfold Pipeline.launchCred
    refine BIBase.Entails.trans (bigSep_subset (t := Finset.univ.map ⟨csem, csem_injective⟩) (Finset.subset_univ _)) ?_
    rw [bigSep_map]; exact BI.Entails.refl _
  refine BIBase.Entails.trans h ?_
  rw [all_cells c]
  unfold creds crd3 crd
  rw [← launch_at c 0 0 3 sum_0, ← launch_at c 1 0 3 sum_1,
    ← launch_at c 3 1 _ (sum_3 1 (by decide)), ← launch_at c 3 2 _ (sum_3 2 (by decide)), ← launch_at c 3 3 _ (sum_3 3 (by decide)),
    ← launch_at c 5 1 _ (sum_5 1 (by decide)), ← launch_at c 5 2 _ (sum_5 2 (by decide)), ← launch_at c 5 3 _ (sum_5 3 (by decide)),
    ← launch_at c 7 1 _ (sum_7 1 (by decide)), ← launch_at c 7 2 _ (sum_7 2 (by decide)), ← launch_at c 7 3 _ (sum_7 3 (by decide))]
  iintro ⟨H0, H1, -, ⟨-, H3⟩, -, ⟨-, H5⟩, -, -, H7⟩
  isplitl [H0]; · iexact H0
  isplitl [H1]; · iexact H1
  isplitl [H3]; · iexact H3
  isplitl [H5]; · iexact H5
  iexact H7

end Cert.MoE

end
-- ==== Proof.Launch.lean ====
/-
# The run

Every run of the kernel on all devices, from any memory with every semaphore at zero.
-/
module

public import proofs.«01_k».proof.Proof.Credit
public import Idealize.ShloMosaic.Lib.Pipeline.CollectiveSegs

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- The routing table, which the kernel never reads. -/
abbrev table (c : Dev nD) : sProp 𝕄 := ((c : Thread nD τ).loc main_arg1) ↦{fullShare} m ((c : Thread nD τ).loc main_arg1)

/-- What a device has at launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ table m c) := by
  rw [Pipeline.unscopedRestP_none, unscopedRest0_eq]
  iintro ⟨HT, Hlev, Hcr, -, HG⟩
  ihave Hc := (creds_intro (F := F) c) $$ Hcr
  imodintro
  unfold start G'
  isplitr [HT]
  · isplitl [HG]; · iexact HG
    isplitl [Hc]; · iexact Hc
    iexact Hlev
  · iexact HT

/-- A whole buffer held is the buffer held through its view, -/
theorem whole_in (c : Dev nD) {b : Ref sig .tc} (f : Buf (Elt F) ((c : Thread nD τ).loc b)) :
    (((c : Thread nD τ).loc b) ↦{fullShare} f : sProp 𝕄) ⊢ owns (c : Thread nD τ) (Memref.whole b) fullShare f := by
  unfold owns; simp only [Memref.view_whole, View.read_whole, View.set_whole]
  iintro H; iexists f; isplitr; · (ipureintro; rfl)
  iexact H
/-- and back. -/
theorem whole_out (c : Dev nD) {b : Ref sig .tc} (f : Buf (Elt F) ((c : Thread nD τ).loc b)) :
    owns (c : Thread nD τ) (Memref.whole b) fullShare f ⊢ (((c : Thread nD τ).loc b) ↦{fullShare} f : sProp 𝕄) := by
  unfold owns; simp only [Memref.view_whole, View.read_whole, View.set_whole]
  iintro ⟨%g, %h, H⟩; subst h; iexact H

/-- The start of the pipeline's one step. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, H0⟩, ⟨%g, H1⟩, ⟨%h, H2⟩⟩
  ihave H0 := (whole_in c f) $$ H0
  ihave H1 := (whole_in c g) $$ H1
  ihave H2 := (whole_in c h) $$ H2
  isplitl [Hs]; · iexact Hs
  isplitl [H0]; · iexists f; iexact H0
  isplitl [H1]; · iexists g; iexact H1
  iexists h; iexact H2

/-- Its end. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [sems0_eq]
  iintro ⟨⟨⟨%f, H0⟩, ⟨%g, H1⟩, ⟨%h, H2⟩⟩, HU, HO⟩
  isplitl [HU]; · iexact HU
  isplitl [HO]; · iexact HO
  ihave H0 := (whole_out (b := cc0_scratch0) c f) $$ H0
  ihave H1 := (whole_out (b := cc0_scratch1) c g) $$ H1
  ihave H2 := (whole_out (b := cc0_scratch2) c h) $$ H2
  isplitl [H0]; · iexists f; iexact H0
  isplitl [H1]; · iexists g; iexact H1
  iexists h; iexact H2

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) L0 (Or.inl rfl)
    · exact mayWait_stage c _ (by fin_cases w <;> fin_cases s <;> decide) [] (Or.inr rfl)

/-- What a window's array holds at the end. -/
def finalA (c : Dev nD) (w : Fin cfg0.W) : Buf (Elt F) ((cfg0.win w).arr.view.loc (c : Thread nD τ)) := (dats m ρ 0 c).arrAt w cfg0.N

/-- What every run ends with: each window's array as the body leaves it, the routing table as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- Every run of the sixteen devices ends, with every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := table m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, HT, HSI⟩
      ihave %h := (SI_pointsTo_agree (I := Finset.univ)) $$ [HSI HT]
      · isplitl [HSI] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h', funext fun i => h i (Finset.mem_univ i)⟩
      iexact HSI)
    (hQ := fun _ h hs => ⟨fun c => ⟨fun w => (h c).1 w, (h c).2.2.2⟩, sem_eq_zero hs fun c => (h c).2.2.1⟩)

/-- The arrays the body only reads hold what they held. -/
theorem finalA_0 (c : Dev nD) : finalA m ρ c (0 : Fin 4) = (s₀ m ρ).mem (win0_0.arr.view.loc (c : Thread nD τ)) := (dats m ρ 0 c).arrAt_in (0 : Fin 4) rfl _
/-- The numbers' array ends as it was, -/
theorem finalA_1 (c : Dev nD) : finalA m ρ c (1 : Fin 4) = (s₀ m ρ).mem (win0_1.arr.view.loc (c : Thread nD τ)) := (dats m ρ 0 c).arrAt_in (1 : Fin 4) rfl _
/-- the experts' too. -/
theorem finalA_2 (c : Dev nD) : finalA m ρ c (2 : Fin 4) = (s₀ m ρ).mem (win0_2.arr.view.loc (c : Thread nD τ)) := (dats m ρ 0 c).arrAt_in (2 : Fin 4) rfl _

end Cert.MoE

end
-- ==== Proof.Quiet.lean ====
/-
# What a run leaves alone

The four arrays a device is given, and the semaphores.
-/
module

public import proofs.«01_k».proof.Proof.Launch

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-- Every run leaves the four arrays it is given as they were and every semaphore at zero. -/
theorem quiet : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (finalA_0 m ρ c), (h.1 c).2, ((h.1 c).1 1).trans (finalA_1 m ρ c),
    ((h.1 c).1 2).trans (finalA_2 m ρ c)⟩, h.2⟩) (run_main m ρ)

end Cert.MoE

end
-- ==== Proof.Frames.lean ====
/-
# The programs' runs

The kernel as compiled, the kernel over the extended reals, and the reference: each runs to its end, leaves its
arguments as they were and every semaphore at zero. The two readings of the kernel are one text, so one proof serves both.
-/
module

public import proofs.«01_k».proof.Defs
public import proofs.«01_k».proof.Proof.Gen.Kernel
public import proofs.«01_k».proof.Proof.Gen.ReferenceIdeal.Run
public import proofs.«01_k».proof.Proof.Quiet

@[expose] public section

noncomputable section

namespace Cert.MoE

open Idealize.ShloMosaic Idealize.SL.Sem

/-- The ideal kernel ends well. -/
theorem quiescent_ideal : Cert.quiescent_KernelIdeal := fun m ρ _ => quiet (F := Ideal) m ρ

/-- The two readings run the same body, -/
theorem bodies_eq : Cert.Kernel.defs₀ (F := Bits) = Cert.KernelIdeal.defs₀ (F := Bits) := by
  unfold Cert.Kernel.defs₀ Cert.KernelIdeal.defs₀
  refine congrArg Defs.onTc ?_
  funext ℓ a
  match ℓ, a with
  | ⟨0, _⟩, (t, s) => rfl
/-- the same pipeline around it. -/
theorem defs_eq : Cert.Kernel.defs (F := Bits) = Cert.KernelIdeal.defs (F := Bits) :=
  congrArg (Pipeline.defs (Cert.KernelIdeal.pcfgs (F := Bits))) bodies_eq

/-- The kernel over float words ends well: it is the same text. -/
theorem quiescent_bits : Cert.quiescent_Kernel := fun m ρ _ => by
  rw [defs_eq]
  exact quiet (F := Bits) m ρ

/-- The reference has no semaphore. -/
theorem quiescent_reference : Cert.quiescent_ReferenceIdeal := fun m ρ _ =>
  (θ_run Cert.ReferenceIdeal.defs _ _).mono (fun r h => ⟨fun c => (h c).2, funext fun g => by
    rcases g with ⟨⟨d, k⟩, sm⟩
    cases k <;> cases sm <;> rename_i x <;> exact x.elim0⟩) (Cert.ReferenceIdeal.Value.run (F := Ideal) m ρ)

end Cert.MoE

end
-- ==== Proof.Exact.lean ====
/-
# The kernel's arithmetic over the extended reals

Each value of the kernel at an entry: masks are ones and zeros, roundings are nothing, products and sums are exact.
-/
module

public import proofs.«01_k».proof.Proof.Values
public import Idealize.ShloMosaic.Lib.Pointwise

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A comparison as a factor: one where the words agree, zero where not. -/
theorem mask_eq (a b : BitVec 32) :
    (FloatOps.sitofp (F := Ideal) FTy.f32 (BitVec.setWidth 32 (IntOp.cmpi CmpIPredicate.eq a b)) : EReal) = if a = b then 1 else 0 := by
  show (((BitVec.setWidth 32 (BitVec.ofBool (a == b))).toInt : ℝ) : EReal) = _
  by_cases h : a = b
  · rw [if_pos h, beq_iff_eq.2 h, show (BitVec.setWidth 32 (BitVec.ofBool true)).toInt = 1 by decide]
    norm_num
  · rw [if_neg h, beq_eq_false_iff_ne.2 h, show (BitVec.setWidth 32 (BitVec.ofBool false)).toInt = 0 by decide]
    norm_num

/-- A sum of products whose first factor is masked is the sum or zero. -/
theorem masked_sum (p : Prop) [Decidable p] (f g : Fin 128 → EReal) :
    (∑ k : Fin 128, f k * (if p then 1 else 0) * g k) = if p then ∑ k : Fin 128, f k * g k else 0 := by
  by_cases h : p
  · simp only [if_pos h, mul_one]
  · simp only [if_neg h, mul_zero, zero_mul, Finset.sum_const_zero]

/-- The product for one block: the first expert for the tokens that chose it, the second for those that chose that. -/
theorem product_apply (v : BitVec 32) (u w : Vec Ideal S1x128x256 .bf16) (x : Vec Ideal S64x128 .bf16) (r : Vec Ideal S64x1 .i32) (a : Fin 64) (o : Fin 256) :
    k0_pay9 v (k0_pay1 u w) x r (ix2 a o)
      = (if r (ix2 a 0) = Scalar.muli v 2#32 then ∑ k : Fin 128, x (ix2 a k) * u (ix3 0 k o) else 0)
        + (if r (ix2 a 0) = Scalar.addi (Scalar.muli v 2#32) 1#32 then ∑ k : Fin 128, x (ix2 a k) * w (ix3 0 k o) else 0) := by
  pointwise [k0_pay9, k0_pay1]
  simp only [mask_eq]
  rw [← masked_sum, ← masked_sum]

variable (m : (ℓ : Loc nD τ sig) → Buf (Elt Ideal) ℓ) (ρ : Dev nD → PrngReg)

/-- Sending changes nothing here. -/
theorem SA_apply (d : Dev nD) (t : Fin 4) (a : Fin 64) (o : Fin 256) : SA m ρ d t (ix3 0 a o) = PB m ρ d t (ix2 a o) := by
  unfold SA
  generalize PB m ρ d t = P
  pointwise []
/-- Sending a plane's sum changes nothing either. -/
theorem SB_apply (d : Dev nD) (a : Fin 64) (o : Fin 256) : SB m ρ d (ix3 0 a o) = QS m ρ d (ix2 a o) := by
  unfold SB
  generalize QS m ρ d = P
  pointwise []
/-- The sum over a plane at an entry. -/
theorem plane_sum (p : FVec Ideal S64x256 .f32) (u v w : FVec Ideal S1x64x256 .bf16) (a : Fin 64) (o : Fin 256) :
    k0_pay12 (k0_pay10 p u v) (k0_pay11 w) (ix2 a o) = p (ix2 a o) + u (ix3 0 a o) + v (ix3 0 a o) + w (ix3 0 a o) := by
  pointwise [k0_pay12, k0_pay10, k0_pay11]
/-- The sum over the planes at an entry. -/
theorem column_sum (p : FVec Ideal S64x256 .f32) (u v w : FVec Ideal S1x64x256 .bf16) (a : Fin 64) (o : Fin 256) :
    k0_pay15 (k0_pay14 p u) v w (ix2 a o) = p (ix2 a o) + u (ix3 0 a o) + v (ix3 0 a o) + w (ix3 0 a o) := by
  pointwise [k0_pay14, k0_pay15]
/-- A device's plane sum: the shares of its plane's four devices. -/
theorem QS_apply (c : Dev nD) (a : Fin 64) (o : Fin 256) : QS m ρ c (ix2 a o)
    = PB m ρ c (pc c) (ix2 a o) + PB m ρ (pl c 1) (pc c) (ix2 a o) + PB m ρ (pl c 3) (pc c) (ix2 a o) + PB m ρ (pl c 2) (pc c) (ix2 a o) := by
  unfold QS
  rw [plane_sum, SA_apply, SA_apply, SA_apply]
/-- A device's block: the plane sums of the four planes. -/
theorem TS_apply (c : Dev nD) (a : Fin 64) (o : Fin 256) : TS m ρ c (ix2 a o)
    = QS m ρ c (ix2 a o) + QS m ρ (co c 1) (ix2 a o) + QS m ρ (co c 2) (ix2 a o) + QS m ρ (co c 3) (ix2 a o) := by
  unfold TS
  rw [column_sum, SB_apply, SB_apply, SB_apply]

end Cert.MoE

end
-- ==== Proof.Total.lean ====
/-
# Sums over the mesh and over the experts
-/
module

public import proofs.«01_k».proof.Proof.Mesh
public import Idealize.ShloMosaic.Lib.Pointwise

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The devices counted from one of them, plane by plane. -/
def meshE (c : Dev nD) : Fin 4 × Fin 4 ≃ Dev nD where
  toFun x := mk (zc c + x.1) (pc c + x.2)
  invFun d := (zc d - zc c, pc d - pc c)
  left_inv x := Prod.ext (by show zc (mk _ _) - _ = _; rw [zc_mk]; exact (by decide : ∀ a b : Fin 4, a + b - a = b) _ _)
    (by show pc (mk _ _) - _ = _; rw [pc_mk]; exact (by decide : ∀ a b : Fin 4, a + b - a = b) _ _)
  right_inv d := by
    show mk (zc c + (zc d - zc c)) (pc c + (pc d - pc c)) = d
    rw [(by decide : ∀ a b : Fin 4, a + (b - a) = b) (zc c) (zc d), (by decide : ∀ a b : Fin 4, a + (b - a) = b) (pc c) (pc d), mk_zc_pc]

/-- The sum over the planes of the sums in each plane is the sum over all devices. -/
theorem sum_devices (g : Dev nD → EReal) (c : Dev nD) (q : Dev nD → EReal)
    (hq : ∀ j : Fin 4, q (co c j) = g (co c j) + g (pl (co c j) 1) + g (pl (co c j) 3) + g (pl (co c j) 2)) :
    q (co c 0) + q (co c 1) + q (co c 2) + q (co c 3) = ∑ d : Dev nD, g d := by
  have e (j i : Fin 4) : pl (co c j) i = meshE c (j, i) := by
    show mk (zc (mk (zc c + j) (pc c))) (pc (mk (zc c + j) (pc c)) + i) = mk (zc c + j) (pc c + i)
    rw [zc_mk, pc_mk]
  have e0 (j : Fin 4) : co c j = meshE c (j, 0) := by
    show mk (zc c + j) (pc c) = mk (zc c + j) (pc c + 0)
    rw [f4_add_zero]
  have h (j : Fin 4) : q (co c j) = ∑ i : Fin 4, g (meshE c (j, i)) := by
    rw [hq, e, e, e, e0 j, Fin.sum_univ_four]
    abel
  rw [h, h, h, h, ← Equiv.sum_comp (meshE c) g, Fintype.sum_prod_type]
  exact (Fin.sum_univ_four fun j => ∑ i : Fin 4, g (meshE c (j, i))).symm

/-- Summing over the devices what each adds for its two experts is summing over the experts. -/
theorem sum_experts (f : Fin 32 → EReal) :
    (∑ d : Dev nD, (f ⟨2 * d.val, by have h : d.val < 16 := d.isLt; omega⟩ + f ⟨2 * d.val + 1, by have h : d.val < 16 := d.isLt; omega⟩)) = ∑ e : Fin 32, f e := by
  rw [← Equiv.sum_comp (finProdFinEquiv (m := 16) (n := 2)) f, Fintype.sum_prod_type]
  refine Finset.sum_congr rfl fun d _ => ?_
  rw [Fin.sum_univ_two]
  refine congrArg₂ (· + ·) (congrArg f (Fin.ext ?_)) (congrArg f (Fin.ext ?_))
  · show 2 * d.val = 0 + 2 * d.val; omega
  · show 2 * d.val + 1 = 1 + 2 * d.val; omega

end Cert.MoE

end
-- ==== Proof.Routed.lean ====
/-
# The kernel's result is the routed product

Each token's row times the expert it names: the sixteen devices' shares put together.
-/
module

public import proofs.«01_k».proof.Proof.Exact
public import proofs.«01_k».proof.Proof.Total
public import proofs.«01_k».proof.Proof.Launch

@[expose] public section

set_option maxRecDepth 16384

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The routed product: row `i` of the activations times the expert that token `i` names, zero if it names none. -/
def routed (X : S256x128.Idx → EReal) (E : S256x1.Idx → BitVec 32) (W : (⟨3, ![32, 128, 256]⟩ : Shape).Idx → EReal) (i : Fin 256) (o : Fin 256) : EReal :=
  ∑ e : Fin 32, if E (ix2 i 0) = BitVec.ofNat 32 e.val then ∑ k : Fin 128, X (ix2 i k) * W (ix3 e k o) else 0

variable (m : (ℓ : Loc nD τ sig) → Buf (Elt Ideal) ℓ) (ρ : Dev nD → PrngReg)

/-- Token `a` of block `t`. -/
abbrev tokenOf (t : Fin 4) (a : Fin 64) : Fin 256 := ⟨64 * t.val + a.val, by have := a.isLt; have := t.isLt; omega⟩

/-- A block's activations are the argument's rows. -/
theorem xb_apply (c : Dev nD) (t : Fin 4) (a : Fin 64) (k : Fin 128) :
    xb m ρ c t (ix2 a k) = m ((c : Thread nD τ).loc main_arg0) (ix2 (tokenOf t a) k) := by
  refine congrArg (m ((c : Thread nD τ).loc main_arg0)) (funext fun b => ?_)
  match b with
  | ⟨0, _⟩ => exact Fin.ext (by show 0 + 1 * (64 * t.val + 1 * a.val) = 64 * t.val + a.val; omega)
  | ⟨1, _⟩ => exact Fin.ext (by show 0 + 1 * (0 + 1 * k.val) = k.val; omega)
/-- A block's numbers are the argument's. -/
theorem rb_apply (c : Dev nD) (t : Fin 4) (a : Fin 64) :
    rb m ρ c t (ix2 a 0) = m ((c : Thread nD τ).loc main_arg2) (ix2 (tokenOf t a) 0) := by
  refine congrArg (m ((c : Thread nD τ).loc main_arg2)) (funext fun b => ?_)
  match b with
  | ⟨0, _⟩ => exact Fin.ext (by show 0 + 1 * (64 * t.val + 1 * a.val) = 64 * t.val + a.val; omega)
  | ⟨1, _⟩ => rfl

/-- The number that a device compares with first, -/
theorem word_even : ∀ d : Dev nD, Scalar.muli (wd d) 2#32 = BitVec.ofNat 32 (2 * d.val) := by decide
/-- and second. -/
theorem word_odd : ∀ d : Dev nD, Scalar.addi (Scalar.muli (wd d) 2#32) 1#32 = BitVec.ofNat 32 (2 * d.val + 1) := by decide

variable (X : S256x128.Idx → EReal) (E : S256x1.Idx → BitVec 32) (W : (⟨3, ![32, 128, 256]⟩ : Shape).Idx → EReal)
/-- The devices hold the arrays: the first two whole, of the third each its two experts. -/
def Holds : Prop := ∀ c : Dev nD, m ((c : Thread nD τ).loc main_arg0) = X ∧ m ((c : Thread nD τ).loc main_arg2) = E
  ∧ m ((c : Thread nD τ).loc main_arg3) = Layout.block ⟨3, ![2, 128, 256]⟩ ⟨3, ![32, 128, 256]⟩ 0 16 c W

/-- What expert `e` adds to a result. -/
abbrev share (i o : Fin 256) (e : Fin 32) : EReal := if E (ix2 i 0) = BitVec.ofNat 32 e.val then ∑ k : Fin 128, X (ix2 i k) * W (ix3 e k o) else 0

/-- A device's experts are the whole array's. -/
theorem expert_apply (h : Holds m X E W) (c : Dev nD) (s : Fin 2) (k : Fin 128) (o : Fin 256) :
    m ((c : Thread nD τ).loc main_arg3) (ix3 s k o) = W (ix3 ⟨2 * c.val + s.val, by have h : c.val < 16 := c.isLt; have := s.isLt; omega⟩ k o) := by
  rw [(h c).2.2]
  refine congrArg W (funext fun b => ?_)
  match b with
  | ⟨0, _⟩ => exact Fin.ext (by show c.val * 2 + s.val = 2 * c.val + s.val; omega)
  | ⟨1, _⟩ => rfl
  | ⟨2, _⟩ => rfl

/-- A device's product for a block: what its two experts add. -/
theorem PB_apply (h : Holds m X E W) (c : Dev nD) (t : Fin 4) (a : Fin 64) (o : Fin 256) :
    PB m ρ c t (ix2 a o) = share X E W (tokenOf t a) o ⟨2 * c.val, by have h : c.val < 16 := c.isLt; omega⟩
      + share X E W (tokenOf t a) o ⟨2 * c.val + 1, by have h : c.val < 16 := c.isLt; omega⟩ := by
  unfold PB wE
  rw [product_apply, rb_apply, word_odd, word_even, (h c).2.1]
  refine congrArg₂ (· + ·) (if_congr Iff.rfl (Finset.sum_congr rfl fun k _ => ?_) rfl) (if_congr Iff.rfl (Finset.sum_congr rfl fun k _ => ?_) rfl)
  · rw [xb_apply, (h c).1]
    refine congrArg (X (ix2 (tokenOf t a) k) * ·) (Eq.trans ?_ (expert_apply m X E W h c 0 k o))
    refine congrArg (m ((c : Thread nD τ).loc main_arg3)) (funext fun b => ?_)
    match b with
    | ⟨0, _⟩ => rfl
    | ⟨1, _⟩ => exact Fin.ext (by show 0 + 1 * (0 + 1 * k.val) = k.val; omega)
    | ⟨2, _⟩ => exact Fin.ext (by show 0 + 1 * (0 + 1 * o.val) = o.val; omega)
  · rw [xb_apply, (h c).1]
    refine congrArg (X (ix2 (tokenOf t a) k) * ·) (Eq.trans ?_ (expert_apply m X E W h c 1 k o))
    refine congrArg (m ((c : Thread nD τ).loc main_arg3)) (funext fun b => ?_)
    match b with
    | ⟨0, _⟩ => rfl
    | ⟨1, _⟩ => exact Fin.ext (by show 0 + 1 * (0 + 1 * k.val) = k.val; omega)
    | ⟨2, _⟩ => exact Fin.ext (by show 0 + 1 * (0 + 1 * o.val) = o.val; omega)

/-- The block a device ends with: the routed product of its tokens. -/
theorem TS_routed (h : Holds m X E W) (c : Dev nD) (a : Fin 64) (o : Fin 256) : TS m ρ c (ix2 a o) = routed X E W (tokenOf (pc c) a) o := by
  have hp (j : Fin 4) : pc (co c j) = pc c := pc_mk _ _
  have h0 : co c 0 = c := by show mk (zc c + 0) (pc c) = c; rw [f4_add_zero, mk_zc_pc]
  have hs := sum_devices (fun d => PB m ρ d (pc c) (ix2 a o)) c (fun d => QS m ρ d (ix2 a o)) fun j => by rw [QS_apply, hp]
  rw [h0] at hs
  rw [TS_apply]
  refine hs.trans ?_
  refine Eq.trans (Finset.sum_congr rfl fun d _ => PB_apply m ρ X E W h d (pc c) a o) ?_
  exact sum_experts (share X E W (tokenOf (pc c) a) o)

/-- The kernel's result is the routed product. -/
theorem outAt_routed (h : Holds m X E W) (c : Dev nD) : outAt m ρ c = fun j : S256x256.Idx => routed X E W (j 0) (j 1) := by
  funext j
  have h0 : (j 0).val < 256 := (j 0).isLt
  unfold outAt glueO
  have hj : (fun b => match b with
      | ⟨0, _⟩ => ⟨(j 0).val % 64, Nat.mod_lt _ (by decide)⟩
      | ⟨1, _⟩ => ⟨(j 1).val, (j 1).isLt⟩ : S64x256.Idx) = ix2 (⟨(j 0).val % 64, Nat.mod_lt _ (by decide)⟩ : Fin 64) (j 1) := by
    funext b
    match b with
    | ⟨0, _⟩ => rfl
    | ⟨1, _⟩ => rfl
  refine (congrArg _ hj).trans ((TS_routed m ρ X E W h _ _ _).trans ?_)
  refine congrArg (fun i : Fin 256 => routed X E W i (j 1)) (Fin.ext ?_)
  show 64 * (pc (mk (zc c) _)).val + (j 0).val % 64 = (j 0).val
  rw [pc_mk]
  show 64 * ((j 0).val / 64) + (j 0).val % 64 = (j 0).val
  omega

/-- The array the body writes ends as the body left it. -/
theorem finalA_3 (c : Dev nD) : finalA m ρ c (3 : Fin 4) = outAt m ρ c :=
  (dats m ρ 0 c).arrAt_eq_of_cover (3 : Fin 4) (outAt m ρ c)
    (fun t _ => by
      funext j
      refine congrArg (outAt m ρ c) (funext fun b => ?_)
      match b with
      | ⟨0, _⟩ => exact Fin.ext (by show (j 0).val = 0 + 1 * (j 0).val; omega)
      | ⟨1, _⟩ => exact Fin.ext (by show (j 1).val = 0 + 1 * (j 1).val; omega))
    (fun i => ⟨t₀, rfl, by
      have h := (win0_3.blk t₀).view.emb_mem_set i
      rwa [show (win0_3.blk t₀).view.emb i = i from funext fun b => by
        match b with
        | ⟨0, _⟩ => exact Fin.ext (by show 0 + 1 * (i 0).val = (i 0).val; omega)
        | ⟨1, _⟩ => exact Fin.ext (by show 0 + 1 * (i 1).val = (i 1).val; omega)] at h⟩)

end Cert.MoE

end
-- ==== Proof.RefRouted.lean ====
/-
# The reference's result is the routed product

The reference looks up each token's expert, clamped to the table, multiplies, and puts zero where the number names no expert.
-/
module

public import proofs.«01_k».proof.Proof.Gen.ReferenceIdeal
public import proofs.«01_k».proof.Proof.Routed
public import Idealize.ShloMosaic.Lib.Pointwise

@[expose] public section

set_option maxRecDepth 16384

noncomputable section

namespace Cert.MoE

open Cert.ReferenceIdeal Cert.ReferenceIdeal.Gen
open Idealize.ShloMosaic

/-- The reference's lookup at an entry: the expert whose number the token carries, clamped to the table. -/
theorem lookup_apply {α : Type} (W : S32x128x256.Idx → α) (idx : IVec S256x1 32) (i : Fin 256) (k : Fin 128) (o : Fin 256) (e : Fin 32)
    (he : min (idx (ix2 i 0)).toInt.toNat 31 = e.val) :
    Host.gather gather_S32x128x256_S256x1_S256x128x256_12_0_n_n_0_1_1128256 W idx (ix3 i k o) = W (ix3 e k o) := by
  unfold Host.gather
  refine congrArg W (funext fun b => Fin.ext ?_)
  have hb : ∀ b' : Fin 3, b' ∉ gather_S32x128x256_S256x1_S256x128x256_12_0_n_n_0_1_1128256.operandBatchingDims := fun _ => List.not_mem_nil
  show GatherDims.start _ _ idx b + GatherDims.batchCoord _ _ b + GatherDims.offCoord _ _ b = _
  rw [GatherDims.batchCoord_eq_zero _ _ _ (hb b), Nat.add_zero]
  match b with
  | ⟨0, _⟩ =>
    rw [GatherDims.offCoord_eq_zero _ _ _ (fun h => ((GatherDims.mem_sKept _ _).1 h).1 (List.mem_singleton.2 rfl)), Nat.add_zero]
    refine Eq.trans ?_ he
    unfold GatherDims.start
    have hs : (0 : Fin 3) ∈ gather_S32x128x256_S256x1_S256x128x256_12_0_n_n_0_1_1128256.startIndexMap := List.mem_singleton.2 rfl
    refine (dif_pos hs).trans ?_
    refine congrArg (fun x : S256x1.Idx => min (idx x).toInt.toNat 31) (funext fun a => Fin.ext ?_)
    match a with
    | ⟨0, _⟩ => rfl
    | ⟨1, _⟩ => rfl
  | ⟨1, _⟩ =>
    unfold GatherDims.start
    have hs : (1 : Fin 3) ∉ gather_S32x128x256_S256x1_S256x128x256_12_0_n_n_0_1_1128256.startIndexMap := fun h => absurd (List.mem_singleton.1 h) (by decide)
    exact (congrArg (· + _) (dif_neg hs)).trans (Nat.zero_add _)
  | ⟨2, _⟩ =>
    unfold GatherDims.start
    have hs : (2 : Fin 3) ∉ gather_S32x128x256_S256x1_S256x128x256_12_0_n_n_0_1_1128256.startIndexMap := fun h => absurd (List.mem_singleton.1 h) (by decide)
    exact (congrArg (· + _) (dif_neg hs)).trans (Nat.zero_add _)

/-- The reference's test of a token's number: does it name an expert? -/
def names (e : BitVec 32) : BitVec 1 := IntOp.andi (IntOp.cmpi .sge e 0#32) (IntOp.cmpi .slt e 32#32)
/-- The numbers 0 to 31 name an expert, and clamping keeps them. -/
theorem names_expert : ∀ e : Fin 32, names (BitVec.ofNat 32 e.val) = 1#1 ∧ min (BitVec.ofNat 32 e.val).toInt.toNat 31 = e.val := by decide
/-- No other number names one. -/
theorem names_none (e : BitVec 32) (h : ∀ n : Fin 32, e ≠ BitVec.ofNat 32 n.val) : names e = 0#1 := by
  have h32 : 32 ≤ e.toNat := by
    by_contra hc
    exact h ⟨e.toNat, by omega⟩ (by simp)
  have hl := e.isLt
  show BitVec.ofBool ((0#32).sle e) &&& BitVec.ofBool (e.slt 32#32) = 0#1
  by_cases hs : e.slt 32#32 = true
  · have h0 : (0#32).sle e = false := by
      rw [← Bool.not_eq_true]
      intro h0
      have h1 := of_decide_eq_true h0
      have h2 := of_decide_eq_true hs
      rw [show (0#32).toInt = 0 from rfl] at h1
      rw [show (32#32).toInt = 32 from rfl] at h2
      rw [BitVec.toInt_eq_toNat_cond] at h1 h2
      split at h1 <;> omega
    rw [h0]
    cases e.slt 32#32 <;> rfl
  · rw [Bool.not_eq_true] at hs
    rw [hs]
    cases (0#32).sle e <;> rfl

/-- The reference's entry before the lookup is read. -/
theorem reference_entry (X : FVec Ideal S256x128 .bf16) (E : IVec S256x1 32) (G : FVec Ideal S256x128x256 .bf16) (i o : Fin 256) :
    select (broadcastInDim S256x256 ![0, 1] bcast_S256x1_S256x256_0_1 (broadcastInDim S256x1 ![0] bcast_S256_S256x1_0 (andi (cmpi .sge (shapeCast _ E shapeCasts_S256x1_S256) (broadcastInDim S256 ![] bcast_S_S256 (constantI S_ 32 0#32))) (cmpi .slt (shapeCast _ E shapeCasts_S256x1_S256) (broadcastInDim S256 ![] bcast_S_S256 (constantI S_ 32 32#32)))))) (Host.dotGeneral dot_S256x128_S256x128x256_S256x256_1_1_n_2_0_0 none X G) (broadcastInDim S256x256 ![] bcast_S_S256x256 (id (constant (F := Ideal) S_ .f32 0x00000000#32))) (ix2 i o)
      = Scalar.select (names (E (ix2 i 0))) (∑ k : Fin 128, X (ix2 i k) * G (ix3 i k o)) (0 : EReal) := by
  unfold names
  pointwise [id]

/-- The numbers looked up are the tokens'. -/
theorem number_entry (E : IVec S256x1 32) (i : Fin 256) :
    broadcastInDim S256x1 ![0] bcast_S256_S256x1_0 (shapeCast _ E shapeCasts_S256x1_S256) (ix2 i (0 : Fin 1)) = E (ix2 i 0) := by
  pointwise []

/-- The reference's result is the routed product. -/
theorem reference_routed (X : FVec Ideal S256x128 .bf16) (E : IVec S256x1 32) (W : FVec Ideal S32x128x256 .bf16) :
    select (broadcastInDim S256x256 ![0, 1] bcast_S256x1_S256x256_0_1 (broadcastInDim S256x1 ![0] bcast_S256_S256x1_0 (andi (cmpi .sge (shapeCast _ E shapeCasts_S256x1_S256) (broadcastInDim S256 ![] bcast_S_S256 (constantI S_ 32 0#32))) (cmpi .slt (shapeCast _ E shapeCasts_S256x1_S256) (broadcastInDim S256 ![] bcast_S_S256 (constantI S_ 32 32#32)))))) (Host.dotGeneral dot_S256x128_S256x128x256_S256x256_1_1_n_2_0_0 none X (Host.gather gather_S32x128x256_S256x1_S256x128x256_12_0_n_n_0_1_1128256 W (broadcastInDim S256x1 ![0] bcast_S256_S256x1_0 (shapeCast _ E shapeCasts_S256x1_S256)))) (broadcastInDim S256x256 ![] bcast_S_S256x256 (id (constant (F := Ideal) S_ .f32 0x00000000#32)))
      = fun j : S256x256.Idx => routed X E W (j 0) (j 1) := by
  funext j
  idx_vars j
  rw [reference_entry]
  show _ = routed X E W _ _
  unfold routed Scalar.select
  by_cases h : ∃ e : Fin 32, E (ix2 j0 0) = BitVec.ofNat 32 e.val
  · obtain ⟨e, he⟩ := h
    have hn := names_expert e
    rw [he, if_pos (show names (BitVec.ofNat 32 e.val) = 1 from hn.1), Finset.sum_eq_single e]
    · rw [if_pos rfl]
      refine Finset.sum_congr rfl fun k _ => congrArg (X (ix2 j0 k) * ·) (lookup_apply W _ j0 k j1 e ?_)
      rw [number_entry, he]
      exact hn.2
    · intro e' _ hne
      refine if_neg fun hc => hne (Fin.ext ?_)
      have h1 := congrArg BitVec.toNat hc
      rw [BitVec.toNat_ofNat, BitVec.toNat_ofNat] at h1
      omega
    · intro hc
      exact absurd (Finset.mem_univ e) hc
  · have hne : ∀ e : Fin 32, E (ix2 j0 0) ≠ BitVec.ofNat 32 e.val := fun e he => h ⟨e, he⟩
    rw [names_none _ hne, if_neg (by decide)]
    exact (Finset.sum_eq_zero fun e _ => if_neg (hne e)).symm

end Cert.MoE

end
-- ==== Proof.Result.lean ====
/-
# Kernel and reference agree

Both results are the routed product of the arguments.
-/
module

public import proofs.«01_k».proof.Proof.Frames
public import proofs.«01_k».proof.Proof.RefRouted

@[expose] public section

set_option maxRecDepth 16384

noncomputable section

namespace Cert.MoE

open Idealize.ShloMosaic Idealize.ShloMosaic.TcCoe Idealize.SL.Sem

/-- Over the extended reals every device of the kernel ends with the reference's result. -/
theorem result_equals : Cert.algebraic_KernelIdeal_ReferenceIdeal := by
  intro m ρ m' ρ' _ hm
  have hH : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)) :=
    fun c => ⟨(hm c).1, (hm c).2.2.1, (hm c).2.2.2⟩
  refine ⟨fun j => routed (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)) (j 0) (j 1), ?_, ?_⟩
  · refine (θ_run _ _ _).mono (fun r h c => ?_) (run_main (F := Ideal) m ρ)
    have hw := (h.1 c).1
    exact ⟨(hw (3 : Fin 4)).trans ((finalA_3 m ρ c).trans (outAt_routed m ρ _ _ _ hH c)), (hw (0 : Fin 4)).trans (finalA_0 m ρ c), (h.1 c).2,
      (hw (1 : Fin 4)).trans (finalA_1 m ρ c), (hw (2 : Fin 4)).trans (finalA_2 m ρ c)⟩
  · refine (θ_run _ _ _).mono (fun r h => ?_) (Cert.ReferenceIdeal.Value.run (F := Ideal) m' ρ')
    exact ⟨(h 0).1.trans (reference_routed _ _ _), (h 0).2⟩

end Cert.MoE

end
-- ==== Proof.lean ====
/-
# The claims, put together

The three programs end well, the ideal program is the kernel over the extended reals, and there the kernel's
result is the reference's. The parts are proved in the modules beside this one: `Frames` and `Result`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts,
  Cert.MoE.quiescent_bits, Cert.MoE.quiescent_ideal, Cert.MoE.quiescent_reference, trivial, Cert.MoE.result_equals⟩

end Cert.Proof

end
